-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S6x3 : Shape := ⟨2, ![6, 3]⟩
abbrev S6x2 : Shape := ⟨2, ![6, 2]⟩
abbrev S_ : Shape := ⟨0, ![]⟩
abbrev S128x768 : Shape := ⟨2, ![128, 768]⟩
abbrev S128x1536 : Shape := ⟨2, ![128, 1536]⟩
abbrev S1x1 : Shape := ⟨2, ![1, 1]⟩
abbrev S64x1536 : Shape := ⟨2, ![64, 1536]⟩

abbrev nBuf : Space → Nat
  | .hbm => 3
  | .vmem => 9
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x768, .bf16⟩
  | .local _ .vmem, ⟨4, _⟩ => ⟨S768x1536, .bf16⟩
  | .local _ .vmem, ⟨5, _⟩ => ⟨S1536x1536, .f32⟩
  | .local _ .vmem, ⟨6, _⟩ => ⟨S1536x1536, .bf16⟩
  | .local _ .vmem, ⟨7, _⟩ => ⟨S1536x1536, .bf16⟩
  | .local _ .vmem, ⟨8, _⟩ => ⟨S1536x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_19 : BitVec 32) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let v28 : BitVec 32 := Scalar.subi c1_i32_18 v27
  let c128_i32 : BitVec 32 := 128#32
  let v29 : BitVec 32 := Scalar.muli v28 c128_i32
  let v30 : BitVec 32 := Scalar.addi c0_i32_19 v29
  let v31 : Index := Scalar.indexCast v30
  let c0_20 : Index := 0#32
  ![v31.toNat, 0]
def k0_off2 (d0 : Dev nD) (c0_i32_19 : BitVec 32) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let v28 : BitVec 32 := Scalar.subi c1_i32_18 v27
  let c128_i32 : BitVec 32 := 128#32
  let v29 : BitVec 32 := Scalar.muli v28 c128_i32
  let v30 : BitVec 32 := Scalar.addi c0_i32_19 v29
  let v35 : Index := Scalar.indexCast v30
  let c0_23 : Index := 0#32
  ![v35.toNat, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v46 : BitVec 32 := Scalar.xori v2 c1_i32_28
  let c1_i32_34 : BitVec 32 := 1#32
  let v47 : BitVec 32 := Scalar.muli v46 c1_i32_34
  let v48 : BitVec 32 := Scalar.addi c0_i32_35 v47
  v48.toNat
def k0_off3 (d0 : Dev nD) (c256_i32 : BitVec 32) (c1_i32_41 : BitVec 32) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.shrsi v2 c1_i32_41
  let c1_i32_42 : BitVec 32 := 1#32
  let v57 : BitVec 32 := Scalar.andi v56 c1_i32_42
  let v58 : BitVec 32 := Scalar.subi c1_i32_43 v57
  let c128_i32_44 : BitVec 32 := 128#32
  let v59 : BitVec 32 := Scalar.muli v58 c128_i32_44
  let v60 : BitVec 32 := Scalar.addi c256_i32 v59
  let v61 : Index := Scalar.indexCast v60
  let c0_45 : Index := 0#32
  ![v61.toNat, 0]
def k0_off3_at (r : Fin 4) : BitVec 32 × BitVec 32 :=
  if r.val < 2 then
    if r.val < 1 then
      (256#32, 1#32)
    else
      (512#32, 2#32)
  else
    if r.val < 3 then
      (1024#32, 1#32)
    else
      (1280#32, 2#32)
def k0_off4 (d0 : Dev nD) (c256_i32 : BitVec 32) (c1_i32_41 : BitVec 32) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.shrsi v2 c1_i32_41
  let c1_i32_42 : BitVec 32 := 1#32
  let v57 : BitVec 32 := Scalar.andi v56 c1_i32_42
  let v58 : BitVec 32 := Scalar.subi c1_i32_43 v57
  let c128_i32_44 : BitVec 32 := 128#32
  let v59 : BitVec 32 := Scalar.muli v58 c128_i32_44
  let v60 : BitVec 32 := Scalar.addi c256_i32 v59
  let v65 : Index := Scalar.indexCast v60
  let c0_49 : Index := 0#32
  ![v65.toNat, 0]
def k0_off4_at (r : Fin 4) : BitVec 32 × BitVec 32 :=
  if r.val < 2 then
    if r.val < 1 then
      (256#32, 1#32)
    else
      (512#32, 2#32)
  else
    if r.val < 3 then
      (1024#32, 1#32)
    else
      (1280#32, 2#32)
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v76 : BitVec 32 := Scalar.xori v2 c3_i32_53
  let c1_i32_58 : BitVec 32 := 1#32
  let v77 : BitVec 32 := Scalar.muli v76 c1_i32_58
  let v78 : BitVec 32 := Scalar.addi c0_i32_59 v77
  v78.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_76 : BitVec 32 := 4#32
  let v106 : BitVec 32 := Scalar.xori v2 c4_i32_76
  let c1_i32_81 : BitVec 32 := 1#32
  let v107 : BitVec 32 := Scalar.muli v106 c1_i32_81
  let v108 : BitVec 32 := Scalar.addi c0_i32_82 v107
  v108.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v137 : BitVec 32 := Scalar.xori v2 c1_i32_100
  let c1_i32_105 : BitVec 32 := 1#32
  let v138 : BitVec 32 := Scalar.muli v137 c1_i32_105
  let v139 : BitVec 32 := Scalar.addi c0_i32_106 v138
  v139.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v167 : BitVec 32 := Scalar.xori v2 c3_i32_124
  let c1_i32_129 : BitVec 32 := 1#32
  let v168 : BitVec 32 := Scalar.muli v167 c1_i32_129
  let v169 : BitVec 32 := Scalar.addi c0_i32_130 v168
  v169.toNat
def k0_dev9 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v197 : BitVec 32 := Scalar.xori v2 c4_i32_148
  let c1_i32_152 : BitVec 32 := 1#32
  let v198 : BitVec 32 := Scalar.muli v197 c1_i32_152
  let v199 : BitVec 32 := Scalar.addi c0_i32_153 v198
  v199.toNat
def k0_off5 (d0 : Dev nD) (c0_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let v207 : BitVec 32 := Scalar.addi c0_i32_159 v55
  let v208 : Index := Scalar.indexCast v207
  let c0_160 : Index := 0#32
  ![v208.toNat, 0]
def k0_off6 (d0 : Dev nD) (c0_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let v207 : BitVec 32 := Scalar.addi c0_i32_159 v55
  let v212 : Index := Scalar.indexCast v207
  let c0_164 : Index := 0#32
  ![v212.toNat, 0]
def k0_off7 (d0 : Dev nD) (c256_i32_165 : BitVec 32) (c1_i32_41 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let v216 : BitVec 32 := Scalar.addi c256_i32_165 v85
  let v217 : Index := Scalar.indexCast v216
  let c0_166 : Index := 0#32
  ![v217.toNat, 0]
def k0_off7_at (r : Fin 4) : BitVec 32 × BitVec 32 :=
  if r.val < 2 then
    if r.val < 1 then
      (256#32, 1#32)
    else
      (512#32, 2#32)
  else
    if r.val < 3 then
      (1024#32, 1#32)
    else
      (1280#32, 2#32)
def k0_off8 (d0 : Dev nD) (c256_i32_165 : BitVec 32) (c1_i32_41 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let v216 : BitVec 32 := Scalar.addi c256_i32_165 v85
  let v221 : Index := Scalar.indexCast v216
  let c0_170 : Index := 0#32
  ![v221.toNat, 0]
def k0_off8_at (r : Fin 4) : BitVec 32 × BitVec 32 :=
  if r.val < 2 then
    if r.val < 1 then
      (256#32, 1#32)
    else
      (512#32, 2#32)
  else
    if r.val < 3 then
      (1024#32, 1#32)
    else
      (1280#32, 2#32)
def k0_off9 (d0 : Dev nD) (c0_i32_222 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_221 : BitVec 32 := 1#32
  let c1_i32_219 : BitVec 32 := 1#32
  let v281 : BitVec 32 := Scalar.shrsi v2 c1_i32_219
  let c1_i32_220 : BitVec 32 := 1#32
  let v282 : BitVec 32 := Scalar.andi v281 c1_i32_220
  let v283 : BitVec 32 := Scalar.subi c1_i32_221 v282
  let c64_i32 : BitVec 32 := 64#32
  let v284 : BitVec 32 := Scalar.muli v283 c64_i32
  let v285 : BitVec 32 := Scalar.addi v55 v284
  let v286 : BitVec 32 := Scalar.addi c0_i32_222 v285
  let v287 : Index := Scalar.indexCast v286
  let c0_223 : Index := 0#32
  ![v287.toNat, 0]
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_225 : BitVec 32 := 3#32
  let v293 : BitVec 32 := Scalar.xori v2 c3_i32_225
  let c1_i32_230 : BitVec 32 := 1#32
  let v294 : BitVec 32 := Scalar.muli v293 c1_i32_230
  let v295 : BitVec 32 := Scalar.addi c0_i32_231 v294
  v295.toNat
def k0_off10 (d0 : Dev nD) (c256_i32_265 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c1_i32_263 : BitVec 32 := 1#32
  let c2_i32_261 : BitVec 32 := 2#32
  let v324 : BitVec 32 := Scalar.shrsi v2 c2_i32_261
  let c1_i32_262 : BitVec 32 := 1#32
  let v325 : BitVec 32 := Scalar.andi v324 c1_i32_262
  let v326 : BitVec 32 := Scalar.subi c1_i32_263 v325
  let c64_i32_264 : BitVec 32 := 64#32
  let v327 : BitVec 32 := Scalar.muli v326 c64_i32_264
  let v328 : BitVec 32 := Scalar.addi v85 v327
  let v329 : BitVec 32 := Scalar.addi c256_i32_265 v328
  let v330 : Index := Scalar.indexCast v329
  let c0_266 : Index := 0#32
  ![v330.toNat, 0]
def k0_dev11 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_268 : BitVec 32 := 4#32
  let v336 : BitVec 32 := Scalar.xori v2 c4_i32_268
  let c1_i32_273 : BitVec 32 := 1#32
  let v337 : BitVec 32 := Scalar.muli v336 c1_i32_273
  let v338 : BitVec 32 := Scalar.addi c0_i32_274 v337
  v338.toNat
def k0_off11 (d0 : Dev nD) (c512_i32_307 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_305 : BitVec 32 := 1#32
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let v370 : BitVec 32 := Scalar.subi c1_i32_305 v369
  let c64_i32_306 : BitVec 32 := 64#32
  let v371 : BitVec 32 := Scalar.muli v370 c64_i32_306
  let v372 : BitVec 32 := Scalar.addi v115 v371
  let v373 : BitVec 32 := Scalar.addi c512_i32_307 v372
  let v374 : Index := Scalar.indexCast v373
  let c0_308 : Index := 0#32
  ![v374.toNat, 0]
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_310 : BitVec 32 := 1#32
  let v380 : BitVec 32 := Scalar.xori v2 c1_i32_310
  let c1_i32_315 : BitVec 32 := 1#32
  let v381 : BitVec 32 := Scalar.muli v380 c1_i32_315
  let v382 : BitVec 32 := Scalar.addi c0_i32_316 v381
  v382.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v423 : BitVec 32 := Scalar.xori v2 c3_i32_352
  let c1_i32_357 : BitVec 32 := 1#32
  let v424 : BitVec 32 := Scalar.muli v423 c1_i32_357
  let v425 : BitVec 32 := Scalar.addi c0_i32_358 v424
  v425.toNat
def k0_dev14 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_394 : BitVec 32 := 4#32
  let v466 : BitVec 32 := Scalar.xori v2 c4_i32_394
  let c1_i32_399 : BitVec 32 := 1#32
  let v467 : BitVec 32 := Scalar.muli v466 c1_i32_399
  let v468 : BitVec 32 := Scalar.addi c0_i32_400 v467
  v468.toNat
def k0_dev15 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v510 : BitVec 32 := Scalar.xori v2 c1_i32_436
  let c1_i32_441 : BitVec 32 := 1#32
  let v511 : BitVec 32 := Scalar.muli v510 c1_i32_441
  let v512 : BitVec 32 := Scalar.addi c0_i32_442 v511
  v512.toNat
def k0_off12 (d0 : Dev nD) (c0_i32_466 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_219 : BitVec 32 := 1#32
  let v281 : BitVec 32 := Scalar.shrsi v2 c1_i32_219
  let c1_i32_220 : BitVec 32 := 1#32
  let v282 : BitVec 32 := Scalar.andi v281 c1_i32_220
  let c64_i32_236 : BitVec 32 := 64#32
  let v302 : BitVec 32 := Scalar.muli v282 c64_i32_236
  let v303 : BitVec 32 := Scalar.addi v55 v302
  let v531 : BitVec 32 := Scalar.addi c0_i32_466 v303
  let v532 : Index := Scalar.indexCast v531
  let c0_467 : Index := 0#32
  ![v532.toNat, 0]
def k0_dev16 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_474 : BitVec 32 := 4#32
  let v548 : BitVec 32 := Scalar.xori v2 c4_i32_474
  let c1_i32_479 : BitVec 32 := 1#32
  let v549 : BitVec 32 := Scalar.muli v548 c1_i32_479
  let v550 : BitVec 32 := Scalar.addi c0_i32_480 v549
  v550.toNat
def k0_off13 (d0 : Dev nD) (c256_i32_503 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c2_i32_261 : BitVec 32 := 2#32
  let v324 : BitVec 32 := Scalar.shrsi v2 c2_i32_261
  let c1_i32_262 : BitVec 32 := 1#32
  let v325 : BitVec 32 := Scalar.andi v324 c1_i32_262
  let c64_i32_278 : BitVec 32 := 64#32
  let v345 : BitVec 32 := Scalar.muli v325 c64_i32_278
  let v346 : BitVec 32 := Scalar.addi v85 v345
  let v567 : BitVec 32 := Scalar.addi c256_i32_503 v346
  let v568 : Index := Scalar.indexCast v567
  let c0_504 : Index := 0#32
  ![v568.toNat, 0]
def k0_dev17 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_511 : BitVec 32 := 1#32
  let v584 : BitVec 32 := Scalar.xori v2 c1_i32_511
  let c1_i32_516 : BitVec 32 := 1#32
  let v585 : BitVec 32 := Scalar.muli v584 c1_i32_516
  let v586 : BitVec 32 := Scalar.addi c0_i32_517 v585
  v586.toNat
def k0_off14 (d0 : Dev nD) (c512_i32_540 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let c64_i32_320 : BitVec 32 := 64#32
  let v389 : BitVec 32 := Scalar.muli v369 c64_i32_320
  let v390 : BitVec 32 := Scalar.addi v115 v389
  let v603 : BitVec 32 := Scalar.addi c512_i32_540 v390
  let v604 : Index := Scalar.indexCast v603
  let c0_541 : Index := 0#32
  ![v604.toNat, 0]
def k0_dev18 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_548 : BitVec 32 := 3#32
  let v620 : BitVec 32 := Scalar.xori v2 c3_i32_548
  let c1_i32_553 : BitVec 32 := 1#32
  let v621 : BitVec 32 := Scalar.muli v620 c1_i32_553
  let v622 : BitVec 32 := Scalar.addi c0_i32_554 v621
  v622.toNat
def k0_dev19 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_585 : BitVec 32 := 4#32
  let v656 : BitVec 32 := Scalar.xori v2 c4_i32_585
  let c1_i32_590 : BitVec 32 := 1#32
  let v657 : BitVec 32 := Scalar.muli v656 c1_i32_590
  let v658 : BitVec 32 := Scalar.addi c0_i32_591 v657
  v658.toNat
def k0_dev20 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_622 : BitVec 32 := 1#32
  let v692 : BitVec 32 := Scalar.xori v2 c1_i32_622
  let c1_i32_627 : BitVec 32 := 1#32
  let v693 : BitVec 32 := Scalar.muli v692 c1_i32_627
  let v694 : BitVec 32 := Scalar.addi c0_i32_628 v693
  v694.toNat
def k0_dev21 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_659 : BitVec 32 := 3#32
  let v728 : BitVec 32 := Scalar.xori v2 c3_i32_659
  let c1_i32_664 : BitVec 32 := 1#32
  let v729 : BitVec 32 := Scalar.muli v728 c1_i32_664
  let v730 : BitVec 32 := Scalar.addi c0_i32_665 v729
  v730.toNat
def k0_off15 (d0 : Dev nD) (c0_i32_688 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_219 : BitVec 32 := 1#32
  let v281 : BitVec 32 := Scalar.shrsi v2 c1_i32_219
  let c1_i32_220 : BitVec 32 := 1#32
  let v282 : BitVec 32 := Scalar.andi v281 c1_i32_220
  let c64_i32_236 : BitVec 32 := 64#32
  let v302 : BitVec 32 := Scalar.muli v282 c64_i32_236
  let v303 : BitVec 32 := Scalar.addi v55 v302
  let v747 : BitVec 32 := Scalar.addi c0_i32_688 v303
  let c0_i32_705 : BitVec 32 := 0#32
  ![v747.toNat, 0]
def k0_dev22 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_698 : BitVec 32 := 3#32
  let v772 : BitVec 32 := Scalar.xori v2 c3_i32_698
  let c1_i32_703 : BitVec 32 := 1#32
  let v773 : BitVec 32 := Scalar.muli v772 c1_i32_703
  let v774 : BitVec 32 := Scalar.addi c0_i32_704 v773
  v774.toNat
def k0_off16 (d0 : Dev nD) (c256_i32_726 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c2_i32_261 : BitVec 32 := 2#32
  let v324 : BitVec 32 := Scalar.shrsi v2 c2_i32_261
  let c1_i32_262 : BitVec 32 := 1#32
  let v325 : BitVec 32 := Scalar.andi v324 c1_i32_262
  let c64_i32_278 : BitVec 32 := 64#32
  let v345 : BitVec 32 := Scalar.muli v325 c64_i32_278
  let v346 : BitVec 32 := Scalar.addi v85 v345
  let v791 : BitVec 32 := Scalar.addi c256_i32_726 v346
  let c0_i32_743 : BitVec 32 := 0#32
  ![v791.toNat, 0]
def k0_dev23 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_736 : BitVec 32 := 4#32
  let v816 : BitVec 32 := Scalar.xori v2 c4_i32_736
  let c1_i32_741 : BitVec 32 := 1#32
  let v817 : BitVec 32 := Scalar.muli v816 c1_i32_741
  let v818 : BitVec 32 := Scalar.addi c0_i32_742 v817
  v818.toNat
def k0_off17 (d0 : Dev nD) (c512_i32_764 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let c64_i32_320 : BitVec 32 := 64#32
  let v389 : BitVec 32 := Scalar.muli v369 c64_i32_320
  let v390 : BitVec 32 := Scalar.addi v115 v389
  let v835 : BitVec 32 := Scalar.addi c512_i32_764 v390
  let c0_i32_781 : BitVec 32 := 0#32
  ![v835.toNat, 0]
def k0_dev24 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_774 : BitVec 32 := 1#32
  let v860 : BitVec 32 := Scalar.xori v2 c1_i32_774
  let c1_i32_779 : BitVec 32 := 1#32
  let v861 : BitVec 32 := Scalar.muli v860 c1_i32_779
  let v862 : BitVec 32 := Scalar.addi c0_i32_780 v861
  v862.toNat
def k0_dev25 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_812 : BitVec 32 := 3#32
  let v904 : BitVec 32 := Scalar.xori v2 c3_i32_812
  let c1_i32_817 : BitVec 32 := 1#32
  let v905 : BitVec 32 := Scalar.muli v904 c1_i32_817
  let v906 : BitVec 32 := Scalar.addi c0_i32_818 v905
  v906.toNat
def k0_dev26 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_850 : BitVec 32 := 4#32
  let v948 : BitVec 32 := Scalar.xori v2 c4_i32_850
  let c1_i32_855 : BitVec 32 := 1#32
  let v949 : BitVec 32 := Scalar.muli v948 c1_i32_855
  let v950 : BitVec 32 := Scalar.addi c0_i32_856 v949
  v950.toNat
def k0_dev27 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_888 : BitVec 32 := 1#32
  let v992 : BitVec 32 := Scalar.xori v2 c1_i32_888
  let c1_i32_893 : BitVec 32 := 1#32
  let v993 : BitVec 32 := Scalar.muli v992 c1_i32_893
  let v994 : BitVec 32 := Scalar.addi c0_i32_894 v993
  v994.toNat
def k0_off18 (d0 : Dev nD) (c0_i32_917 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_219 : BitVec 32 := 1#32
  let v281 : BitVec 32 := Scalar.shrsi v2 c1_i32_219
  let c1_i32_220 : BitVec 32 := 1#32
  let v282 : BitVec 32 := Scalar.andi v281 c1_i32_220
  let c64_i32_236 : BitVec 32 := 64#32
  let v302 : BitVec 32 := Scalar.muli v282 c64_i32_236
  let v303 : BitVec 32 := Scalar.addi v55 v302
  let c1_i32_912 : BitVec 32 := 1#32
  let v1011 : BitVec 32 := Scalar.shrsi v2 c1_i32_912
  let c1_i32_913 : BitVec 32 := 1#32
  let v1012 : BitVec 32 := Scalar.andi v1011 c1_i32_913
  let c64_i32_914 : BitVec 32 := 64#32
  let v1013 : BitVec 32 := Scalar.muli v1012 c64_i32_914
  let v1014 : BitVec 32 := Scalar.subi v303 v1013
  let v1018 : BitVec 32 := Scalar.addi c0_i32_917 v1014
  let c0_i32_925 : BitVec 32 := 0#32
  ![v1018.toNat, 0]
def k0_dev28 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_918 : BitVec 32 := 1#32
  let v1019 : BitVec 32 := Scalar.xori v2 c1_i32_918
  let c1_i32_923 : BitVec 32 := 1#32
  let v1020 : BitVec 32 := Scalar.muli v1019 c1_i32_923
  let v1021 : BitVec 32 := Scalar.addi c0_i32_924 v1020
  v1021.toNat
def k0_off19 (d0 : Dev nD) (c0_i32_927 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_219 : BitVec 32 := 1#32
  let v281 : BitVec 32 := Scalar.shrsi v2 c1_i32_219
  let c1_i32_220 : BitVec 32 := 1#32
  let v282 : BitVec 32 := Scalar.andi v281 c1_i32_220
  let c64_i32_236 : BitVec 32 := 64#32
  let v302 : BitVec 32 := Scalar.muli v282 c64_i32_236
  let v303 : BitVec 32 := Scalar.addi v55 v302
  let c1_i32_912 : BitVec 32 := 1#32
  let v1011 : BitVec 32 := Scalar.shrsi v2 c1_i32_912
  let c1_i32_913 : BitVec 32 := 1#32
  let v1012 : BitVec 32 := Scalar.andi v1011 c1_i32_913
  let c64_i32_914 : BitVec 32 := 64#32
  let v1013 : BitVec 32 := Scalar.muli v1012 c64_i32_914
  let v1014 : BitVec 32 := Scalar.subi v303 v1013
  let c1_i32_915 : BitVec 32 := 1#32
  let v1015 : BitVec 32 := Scalar.subi c1_i32_915 v1012
  let c64_i32_916 : BitVec 32 := 64#32
  let v1016 : BitVec 32 := Scalar.muli v1015 c64_i32_916
  let v1017 : BitVec 32 := Scalar.addi v1014 v1016
  let v1028 : BitVec 32 := Scalar.addi c0_i32_927 v1017
  let v1029 : Index := Scalar.indexCast v1028
  let c0_928 : Index := 0#32
  ![v1029.toNat, 0]
def k0_off20 (d0 : Dev nD) (c256_i32_950 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c2_i32_261 : BitVec 32 := 2#32
  let v324 : BitVec 32 := Scalar.shrsi v2 c2_i32_261
  let c1_i32_262 : BitVec 32 := 1#32
  let v325 : BitVec 32 := Scalar.andi v324 c1_i32_262
  let c64_i32_278 : BitVec 32 := 64#32
  let v345 : BitVec 32 := Scalar.muli v325 c64_i32_278
  let v346 : BitVec 32 := Scalar.addi v85 v345
  let c2_i32_945 : BitVec 32 := 2#32
  let v1044 : BitVec 32 := Scalar.shrsi v2 c2_i32_945
  let c1_i32_946 : BitVec 32 := 1#32
  let v1045 : BitVec 32 := Scalar.andi v1044 c1_i32_946
  let c64_i32_947 : BitVec 32 := 64#32
  let v1046 : BitVec 32 := Scalar.muli v1045 c64_i32_947
  let v1047 : BitVec 32 := Scalar.subi v346 v1046
  let v1051 : BitVec 32 := Scalar.addi c256_i32_950 v1047
  let c0_i32_958 : BitVec 32 := 0#32
  ![v1051.toNat, 0]
def k0_dev29 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_951 : BitVec 32 := 3#32
  let v1052 : BitVec 32 := Scalar.xori v2 c3_i32_951
  let c1_i32_956 : BitVec 32 := 1#32
  let v1053 : BitVec 32 := Scalar.muli v1052 c1_i32_956
  let v1054 : BitVec 32 := Scalar.addi c0_i32_957 v1053
  v1054.toNat
def k0_off21 (d0 : Dev nD) (c256_i32_960 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c2_i32_261 : BitVec 32 := 2#32
  let v324 : BitVec 32 := Scalar.shrsi v2 c2_i32_261
  let c1_i32_262 : BitVec 32 := 1#32
  let v325 : BitVec 32 := Scalar.andi v324 c1_i32_262
  let c64_i32_278 : BitVec 32 := 64#32
  let v345 : BitVec 32 := Scalar.muli v325 c64_i32_278
  let v346 : BitVec 32 := Scalar.addi v85 v345
  let c2_i32_945 : BitVec 32 := 2#32
  let v1044 : BitVec 32 := Scalar.shrsi v2 c2_i32_945
  let c1_i32_946 : BitVec 32 := 1#32
  let v1045 : BitVec 32 := Scalar.andi v1044 c1_i32_946
  let c64_i32_947 : BitVec 32 := 64#32
  let v1046 : BitVec 32 := Scalar.muli v1045 c64_i32_947
  let v1047 : BitVec 32 := Scalar.subi v346 v1046
  let c1_i32_948 : BitVec 32 := 1#32
  let v1048 : BitVec 32 := Scalar.subi c1_i32_948 v1045
  let c64_i32_949 : BitVec 32 := 64#32
  let v1049 : BitVec 32 := Scalar.muli v1048 c64_i32_949
  let v1050 : BitVec 32 := Scalar.addi v1047 v1049
  let v1061 : BitVec 32 := Scalar.addi c256_i32_960 v1050
  let v1062 : Index := Scalar.indexCast v1061
  let c0_961 : Index := 0#32
  ![v1062.toNat, 0]
def k0_off22 (d0 : Dev nD) (c512_i32_983 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let c64_i32_320 : BitVec 32 := 64#32
  let v389 : BitVec 32 := Scalar.muli v369 c64_i32_320
  let v390 : BitVec 32 := Scalar.addi v115 v389
  let c1_i32_978 : BitVec 32 := 1#32
  let v1077 : BitVec 32 := Scalar.shrsi v2 c1_i32_978
  let v1078 : BitVec 32 := Scalar.xori v2 v1077
  let c1_i32_979 : BitVec 32 := 1#32
  let v1079 : BitVec 32 := Scalar.andi v1078 c1_i32_979
  let c64_i32_980 : BitVec 32 := 64#32
  let v1080 : BitVec 32 := Scalar.muli v1079 c64_i32_980
  let v1081 : BitVec 32 := Scalar.subi v390 v1080
  let v1085 : BitVec 32 := Scalar.addi c512_i32_983 v1081
  let c0_i32_991 : BitVec 32 := 0#32
  ![v1085.toNat, 0]
def k0_dev30 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_984 : BitVec 32 := 4#32
  let v1086 : BitVec 32 := Scalar.xori v2 c4_i32_984
  let c1_i32_989 : BitVec 32 := 1#32
  let v1087 : BitVec 32 := Scalar.muli v1086 c1_i32_989
  let v1088 : BitVec 32 := Scalar.addi c0_i32_990 v1087
  v1088.toNat
def k0_off23 (d0 : Dev nD) (c512_i32_993 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let c64_i32_320 : BitVec 32 := 64#32
  let v389 : BitVec 32 := Scalar.muli v369 c64_i32_320
  let v390 : BitVec 32 := Scalar.addi v115 v389
  let c1_i32_978 : BitVec 32 := 1#32
  let v1077 : BitVec 32 := Scalar.shrsi v2 c1_i32_978
  let v1078 : BitVec 32 := Scalar.xori v2 v1077
  let c1_i32_979 : BitVec 32 := 1#32
  let v1079 : BitVec 32 := Scalar.andi v1078 c1_i32_979
  let c64_i32_980 : BitVec 32 := 64#32
  let v1080 : BitVec 32 := Scalar.muli v1079 c64_i32_980
  let v1081 : BitVec 32 := Scalar.subi v390 v1080
  let c1_i32_981 : BitVec 32 := 1#32
  let v1082 : BitVec 32 := Scalar.subi c1_i32_981 v1079
  let c64_i32_982 : BitVec 32 := 64#32
  let v1083 : BitVec 32 := Scalar.muli v1082 c64_i32_982
  let v1084 : BitVec 32 := Scalar.addi v1081 v1083
  let v1095 : BitVec 32 := Scalar.addi c512_i32_993 v1084
  let v1096 : Index := Scalar.indexCast v1095
  let c0_994 : Index := 0#32
  ![v1096.toNat, 0]
def k0_dev31 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1017 : BitVec 32 := 1#32
  let v1119 : BitVec 32 := Scalar.xori v2 c1_i32_1017
  let c1_i32_1022 : BitVec 32 := 1#32
  let v1120 : BitVec 32 := Scalar.muli v1119 c1_i32_1022
  let v1121 : BitVec 32 := Scalar.addi c0_i32_1023 v1120
  v1121.toNat
def k0_dev32 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1050 : BitVec 32 := 3#32
  let v1152 : BitVec 32 := Scalar.xori v2 c3_i32_1050
  let c1_i32_1055 : BitVec 32 := 1#32
  let v1153 : BitVec 32 := Scalar.muli v1152 c1_i32_1055
  let v1154 : BitVec 32 := Scalar.addi c0_i32_1056 v1153
  v1154.toNat
def k0_dev33 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1083 : BitVec 32 := 4#32
  let v1186 : BitVec 32 := Scalar.xori v2 c4_i32_1083
  let c1_i32_1088 : BitVec 32 := 1#32
  let v1187 : BitVec 32 := Scalar.muli v1186 c1_i32_1088
  let v1188 : BitVec 32 := Scalar.addi c0_i32_1089 v1187
  v1188.toNat
def k0_off24 (d0 : Dev nD) (c0_i32_1115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.shrsi v2 c1_i32_16
  let v26 : BitVec 32 := Scalar.xori v2 v25
  let c1_i32_17 : BitVec 32 := 1#32
  let v27 : BitVec 32 := Scalar.andi v26 c1_i32_17
  let c128_i32_40 : BitVec 32 := 128#32
  let v55 : BitVec 32 := Scalar.muli v27 c128_i32_40
  let c1_i32_219 : BitVec 32 := 1#32
  let v281 : BitVec 32 := Scalar.shrsi v2 c1_i32_219
  let c1_i32_220 : BitVec 32 := 1#32
  let v282 : BitVec 32 := Scalar.andi v281 c1_i32_220
  let c64_i32_236 : BitVec 32 := 64#32
  let v302 : BitVec 32 := Scalar.muli v282 c64_i32_236
  let v303 : BitVec 32 := Scalar.addi v55 v302
  let c1_i32_912 : BitVec 32 := 1#32
  let v1011 : BitVec 32 := Scalar.shrsi v2 c1_i32_912
  let c1_i32_913 : BitVec 32 := 1#32
  let v1012 : BitVec 32 := Scalar.andi v1011 c1_i32_913
  let c64_i32_914 : BitVec 32 := 64#32
  let v1013 : BitVec 32 := Scalar.muli v1012 c64_i32_914
  let v1014 : BitVec 32 := Scalar.subi v303 v1013
  let c1_i32_1110 : BitVec 32 := 1#32
  let v1211 : BitVec 32 := Scalar.shrsi v2 c1_i32_1110
  let v1212 : BitVec 32 := Scalar.xori v2 v1211
  let c1_i32_1111 : BitVec 32 := 1#32
  let v1213 : BitVec 32 := Scalar.andi v1212 c1_i32_1111
  let c128_i32_1112 : BitVec 32 := 128#32
  let v1214 : BitVec 32 := Scalar.muli v1213 c128_i32_1112
  let v1215 : BitVec 32 := Scalar.subi v1014 v1214
  let c1_i32_1113 : BitVec 32 := 1#32
  let v1216 : BitVec 32 := Scalar.subi c1_i32_1113 v1213
  let c128_i32_1114 : BitVec 32 := 128#32
  let v1217 : BitVec 32 := Scalar.muli v1216 c128_i32_1114
  let v1218 : BitVec 32 := Scalar.addi v1215 v1217
  let v1219 : BitVec 32 := Scalar.addi c0_i32_1115 v1218
  let v1220 : Index := Scalar.indexCast v1219
  let c0_1116 : Index := 0#32
  ![v1220.toNat, 0]
def k0_off25 (d0 : Dev nD) (c256_i32_1138 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v56 : BitVec 32 := Scalar.shrsi v2 c1_i32_41
  let c1_i32_42 : BitVec 32 := 1#32
  let v57 : BitVec 32 := Scalar.andi v56 c1_i32_42
  let c128_i32_64 : BitVec 32 := 128#32
  let v85 : BitVec 32 := Scalar.muli v57 c128_i32_64
  let c2_i32_261 : BitVec 32 := 2#32
  let v324 : BitVec 32 := Scalar.shrsi v2 c2_i32_261
  let c1_i32_262 : BitVec 32 := 1#32
  let v325 : BitVec 32 := Scalar.andi v324 c1_i32_262
  let c64_i32_278 : BitVec 32 := 64#32
  let v345 : BitVec 32 := Scalar.muli v325 c64_i32_278
  let v346 : BitVec 32 := Scalar.addi v85 v345
  let c2_i32_945 : BitVec 32 := 2#32
  let v1044 : BitVec 32 := Scalar.shrsi v2 c2_i32_945
  let c1_i32_946 : BitVec 32 := 1#32
  let v1045 : BitVec 32 := Scalar.andi v1044 c1_i32_946
  let c64_i32_947 : BitVec 32 := 64#32
  let v1046 : BitVec 32 := Scalar.muli v1045 c64_i32_947
  let v1047 : BitVec 32 := Scalar.subi v346 v1046
  let c1_i32_1133 : BitVec 32 := 1#32
  let v1235 : BitVec 32 := Scalar.shrsi v2 c1_i32_1133
  let c1_i32_1134 : BitVec 32 := 1#32
  let v1236 : BitVec 32 := Scalar.andi v1235 c1_i32_1134
  let c128_i32_1135 : BitVec 32 := 128#32
  let v1237 : BitVec 32 := Scalar.muli v1236 c128_i32_1135
  let v1238 : BitVec 32 := Scalar.subi v1047 v1237
  let c1_i32_1136 : BitVec 32 := 1#32
  let v1239 : BitVec 32 := Scalar.subi c1_i32_1136 v1236
  let c128_i32_1137 : BitVec 32 := 128#32
  let v1240 : BitVec 32 := Scalar.muli v1239 c128_i32_1137
  let v1241 : BitVec 32 := Scalar.addi v1238 v1240
  let v1242 : BitVec 32 := Scalar.addi c256_i32_1138 v1241
  let v1243 : Index := Scalar.indexCast v1242
  let c0_1139 : Index := 0#32
  ![v1243.toNat, 0]
def k0_off26 (d0 : Dev nD) (c512_i32_1161 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v86 : BitVec 32 := Scalar.shrsi v2 c2_i32
  let c1_i32_65 : BitVec 32 := 1#32
  let v87 : BitVec 32 := Scalar.andi v86 c1_i32_65
  let c128_i32_87 : BitVec 32 := 128#32
  let v115 : BitVec 32 := Scalar.muli v87 c128_i32_87
  let c1_i32_303 : BitVec 32 := 1#32
  let v367 : BitVec 32 := Scalar.shrsi v2 c1_i32_303
  let v368 : BitVec 32 := Scalar.xori v2 v367
  let c1_i32_304 : BitVec 32 := 1#32
  let v369 : BitVec 32 := Scalar.andi v368 c1_i32_304
  let c64_i32_320 : BitVec 32 := 64#32
  let v389 : BitVec 32 := Scalar.muli v369 c64_i32_320
  let v390 : BitVec 32 := Scalar.addi v115 v389
  let c1_i32_978 : BitVec 32 := 1#32
  let v1077 : BitVec 32 := Scalar.shrsi v2 c1_i32_978
  let v1078 : BitVec 32 := Scalar.xori v2 v1077
  let c1_i32_979 : BitVec 32 := 1#32
  let v1079 : BitVec 32 := Scalar.andi v1078 c1_i32_979
  let c64_i32_980 : BitVec 32 := 64#32
  let v1080 : BitVec 32 := Scalar.muli v1079 c64_i32_980
  let v1081 : BitVec 32 := Scalar.subi v390 v1080
  let c2_i32_1156 : BitVec 32 := 2#32
  let v1258 : BitVec 32 := Scalar.shrsi v2 c2_i32_1156
  let c1_i32_1157 : BitVec 32 := 1#32
  let v1259 : BitVec 32 := Scalar.andi v1258 c1_i32_1157
  let c128_i32_1158 : BitVec 32 := 128#32
  let v1260 : BitVec 32 := Scalar.muli v1259 c128_i32_1158
  let v1261 : BitVec 32 := Scalar.subi v1081 v1260
  let c1_i32_1159 : BitVec 32 := 1#32
  let v1262 : BitVec 32 := Scalar.subi c1_i32_1159 v1259
  let c128_i32_1160 : BitVec 32 := 128#32
  let v1263 : BitVec 32 := Scalar.muli v1262 c128_i32_1160
  let v1264 : BitVec 32 := Scalar.addi v1261 v1263
  let v1265 : BitVec 32 := Scalar.addi c512_i32_1161 v1264
  let v1266 : Index := Scalar.indexCast v1265
  let c0_1162 : Index := 0#32
  ![v1266.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | .hbm, ⟨3, _⟩ => ⟨S1536x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Program.lean ====
/- The kernel's body written once per step. The printed body lists each step six times, once per
   part of the result; here a step is one definition taking the part's number, and the body is the steps in
   the printed order. The last theorem says the two are the same program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Hand

open Idealize.ShloMosaic Idealize.SL.Sem Cert.KernelIdeal Cert.KernelIdeal.Gen

variable {F : FTy → Type} [FloatOps F]

/-- A piece of the kernel: a program that returns nothing. -/
abbrev PR (F : FTy → Type) [FloatOps F] := Prog (TpuEff nD τ sig (Elt F) Λ₀ .tc) PUnit

/-! ## The buffers -/

abbrev mA : Memref sig .tc .vmem S1536x768 .f32 := Memref.whole cc0_stg0_0
abbrev mB : Memref sig .tc .vmem S768x1536 .f32 := Memref.whole cc0_stg1_0
abbrev mOut : Memref sig .tc .vmem S1536x1536 .f32 := Memref.whole cc0_stg2_0
abbrev mAbf : Memref sig .tc .vmem S1536x768 .bf16 := Memref.whole cc0_scratch0
abbrev mBbf : Memref sig .tc .vmem S768x1536 .bf16 := Memref.whole cc0_scratch1
abbrev mP : Memref sig .tc .vmem S1536x1536 .f32 := Memref.whole cc0_scratch2
abbrev mStage : Memref sig .tc .vmem S1536x1536 .bf16 := Memref.whole cc0_scratch3
abbrev mScr : Memref sig .tc .vmem S1536x1536 .bf16 := Memref.whole cc0_scratch4
abbrev mAg : Memref sig .tc .vmem S1536x1536 .bf16 := Memref.whole cc0_scratch5

/-- The shape of `n` whole rows of the result. -/
abbrev SR (n : ℕ) : Shape := ⟨2, ![n, 1536]⟩

/-- `n` rows starting at the offset `o` lie inside the result. -/
abbrev Inb (n : ℕ) (o : Fin 2 → ℕ) : Prop := ∀ a, o a + (SR n).size a ≤ S1536x1536.size a

/-- The rectangle of `n` whole rows at the offset `o`. -/
abbrev rR (n : ℕ) (o : Fin 2 → ℕ) (h : Inb n o) : Rect S1536x1536 := Rect.unit (s := S1536x1536) o (SR n).size h

/-- Those rows of a buffer. -/
abbrev sl {e : EltTy} (m : Memref sig .tc .vmem S1536x1536 e) (n : ℕ) (o : Fin 2 → ℕ) (h : Inb n o) : Memref sig .tc .vmem (SR n) e :=
  m.slice (rR n o h) (fun _ => rfl)

/-! ## The payloads, for any number of rows -/

theorem scR (n : ℕ) : (SR n).ShapeCasts (SR n) := rfl

def payTr (n : ℕ) (v : Vec F (SR n) .f32) : FVec F (SR n) .bf16 :=
  shapeCast (SR n) (truncf .bf16 v bitsLt_bf16_f32) (scR n)

def payAdd (n : ℕ) (v : Vec F (SR n) .f32) (w : Vec F (SR n) .bf16) : FVec F (SR n) .f32 :=
  shapeCast (SR n) (addf v (extf .f32 w bitsLt_bf16_f32)) (scR n)

def payAct (n : ℕ) (v : Vec F (SR n) .f32) : FVec F (SR n) .f32 :=
  divf v (addf (broadcast (SR n) (Scalar.ofBits .f32 0x3F800000#32 : F .f32))
    (exp (subf (broadcast (SR n) (Scalar.ofBits .f32 0x00000000#32 : F .f32)) v)))

def payActTr (n : ℕ) (v : Vec F (SR n) .f32) : FVec F (SR n) .bf16 :=
  shapeCast (SR n) (truncf .bf16 (payAct n v) bitsLt_bf16_f32) (scR n)

def payExt (n : ℕ) (v : Vec F (SR n) .bf16) : FVec F (SR n) .f32 := extf .f32 v bitsLt_bf16_f32

/-! ## Where each part's blocks lie -/

/-- The rows of the left factor whose product part `p` sends first. -/
def offSendA (p : Fin 6) (c : Dev nD) : Fin 2 → ℕ :=
  match p with
  | 0 => k0_off1 c 0#32
  | 1 => k0_off3 c 256#32 1#32
  | 2 => k0_off3 c 512#32 2#32
  | 3 => k0_off1 c 768#32
  | 4 => k0_off3 c 1024#32 1#32
  | 5 => k0_off3 c 1280#32 2#32

theorem offSendA_inb (p : Fin 6) (c : Dev nD) : ∀ a, (offSendA p c) a + S128x768.size a ≤ S1536x768.size a :=
  match p with
  | 0 => k0_off1_inb c 0
  | 1 => k0_off3_inb c 0
  | 2 => k0_off3_inb c 1
  | 3 => k0_off1_inb c 1
  | 4 => k0_off3_inb c 2
  | 5 => k0_off3_inb c 3

/-- The rows of the product part `p` sends first. -/
def offSend (p : Fin 6) (c : Dev nD) : Fin 2 → ℕ :=
  match p with
  | 0 => k0_off2 c 0#32
  | 1 => k0_off4 c 256#32 1#32
  | 2 => k0_off4 c 512#32 2#32
  | 3 => k0_off2 c 768#32
  | 4 => k0_off4 c 1024#32 1#32
  | 5 => k0_off4 c 1280#32 2#32

theorem offSend_inb (p : Fin 6) (c : Dev nD) : Inb 128 (offSend p c) :=
  match p with
  | 0 => k0_off2_inb c 0
  | 1 => k0_off4_inb c 0
  | 2 => k0_off4_inb c 1
  | 3 => k0_off2_inb c 1
  | 4 => k0_off4_inb c 2
  | 5 => k0_off4_inb c 3

/-- The rows of the left factor whose product part `p` keeps. -/
def offKeepA (p : Fin 6) (c : Dev nD) : Fin 2 → ℕ :=
  match p with
  | 0 => k0_off5 c 0#32
  | 1 => k0_off7 c 256#32 1#32
  | 2 => k0_off7 c 512#32 2#32
  | 3 => k0_off5 c 768#32
  | 4 => k0_off7 c 1024#32 1#32
  | 5 => k0_off7 c 1280#32 2#32

theorem offKeepA_inb (p : Fin 6) (c : Dev nD) : ∀ a, (offKeepA p c) a + S128x768.size a ≤ S1536x768.size a :=
  match p with
  | 0 => k0_off5_inb c 0
  | 1 => k0_off7_inb c 0
  | 2 => k0_off7_inb c 1
  | 3 => k0_off5_inb c 1
  | 4 => k0_off7_inb c 2
  | 5 => k0_off7_inb c 3

/-- The rows of the product part `p` keeps. -/
def offKeep (p : Fin 6) (c : Dev nD) : Fin 2 → ℕ :=
  match p with
  | 0 => k0_off6 c 0#32
  | 1 => k0_off8 c 256#32 1#32
  | 2 => k0_off8 c 512#32 2#32
  | 3 => k0_off6 c 768#32
  | 4 => k0_off8 c 1024#32 1#32
  | 5 => k0_off8 c 1280#32 2#32

theorem offKeep_inb (p : Fin 6) (c : Dev nD) : Inb 128 (offKeep p c) :=
  match p with
  | 0 => k0_off6_inb c 0
  | 1 => k0_off8_inb c 0
  | 2 => k0_off8_inb c 1
  | 3 => k0_off6_inb c 1
  | 4 => k0_off8_inb c 2
  | 5 => k0_off8_inb c 3

/-- The rows part `p` sends second. -/
def offSend1 (p : Fin 6) (c : Dev nD) : Fin 2 → ℕ :=
  match p with
  | 0 => k0_off9 c 0#32
  | 1 => k0_off10 c 256#32
  | 2 => k0_off11 c 512#32
  | 3 => k0_off9 c 768#32
  | 4 => k0_off10 c 1024#32
  | 5 => k0_off11 c 1280#32

theorem offSend1_inb (p : Fin 6) (c : Dev nD) : Inb 64 (offSend1 p c) :=
  match p with
  | 0 => k0_off9_inb c 0
  | 1 => k0_off10_inb c 0
  | 2 => k0_off11_inb c 0
  | 3 => k0_off9_inb c 1
  | 4 => k0_off10_inb c 1
  | 5 => k0_off11_inb c 1

/-- The rows part `p` ends up owning. -/
def offOwn (p : Fin 6) (c : Dev nD) : Fin 2 → ℕ :=
  match p with
  | 0 => k0_off12 c 0#32
  | 1 => k0_off13 c 256#32
  | 2 => k0_off14 c 512#32
  | 3 => k0_off12 c 768#32
  | 4 => k0_off13 c 1024#32
  | 5 => k0_off14 c 1280#32

theorem offOwn_inb (p : Fin 6) (c : Dev nD) : Inb 64 (offOwn p c) :=
  match p with
  | 0 => k0_off12_inb c 0
  | 1 => k0_off13_inb c 0
  | 2 => k0_off14_inb c 0
  | 3 => k0_off12_inb c 1
  | 4 => k0_off13_inb c 1
  | 5 => k0_off14_inb c 1

/-- The rows part `p` sends back first. -/
def offG0 (p : Fin 6) (c : Dev nD) : Fin 2 → ℕ :=
  match p with
  | 0 => k0_off15 c 0#32
  | 1 => k0_off16 c 256#32
  | 2 => k0_off17 c 512#32
  | 3 => k0_off15 c 768#32
  | 4 => k0_off16 c 1024#32
  | 5 => k0_off17 c 1280#32

theorem offG0_inb (p : Fin 6) (c : Dev nD) : Inb 64 (offG0 p c) :=
  match p with
  | 0 => k0_off15_inb c 0
  | 1 => k0_off16_inb c 0
  | 2 => k0_off17_inb c 0
  | 3 => k0_off15_inb c 1
  | 4 => k0_off16_inb c 1
  | 5 => k0_off17_inb c 1

/-- The rows part `p` sends back second. -/
def offG1 (p : Fin 6) (c : Dev nD) : Fin 2 → ℕ :=
  match p with
  | 0 => k0_off18 c 0#32
  | 1 => k0_off20 c 256#32
  | 2 => k0_off22 c 512#32
  | 3 => k0_off18 c 768#32
  | 4 => k0_off20 c 1024#32
  | 5 => k0_off22 c 1280#32

theorem offG1_inb (p : Fin 6) (c : Dev nD) : Inb 128 (offG1 p c) :=
  match p with
  | 0 => k0_off18_inb c 0
  | 1 => k0_off20_inb c 0
  | 2 => k0_off22_inb c 0
  | 3 => k0_off18_inb c 1
  | 4 => k0_off20_inb c 1
  | 5 => k0_off22_inb c 1

/-- The rows part `p` receives back first. -/
def offR0 (p : Fin 6) (c : Dev nD) : Fin 2 → ℕ :=
  match p with
  | 0 => k0_off19 c 0#32
  | 1 => k0_off21 c 256#32
  | 2 => k0_off23 c 512#32
  | 3 => k0_off19 c 768#32
  | 4 => k0_off21 c 1024#32
  | 5 => k0_off23 c 1280#32

theorem offR0_inb (p : Fin 6) (c : Dev nD) : Inb 64 (offR0 p c) :=
  match p with
  | 0 => k0_off19_inb c 0
  | 1 => k0_off21_inb c 0
  | 2 => k0_off23_inb c 0
  | 3 => k0_off19_inb c 1
  | 4 => k0_off21_inb c 1
  | 5 => k0_off23_inb c 1

/-- The rows part `p` receives back second. -/
def offR1 (p : Fin 6) (c : Dev nD) : Fin 2 → ℕ :=
  match p with
  | 0 => k0_off24 c 0#32
  | 1 => k0_off25 c 256#32
  | 2 => k0_off26 c 512#32
  | 3 => k0_off24 c 768#32
  | 4 => k0_off25 c 1024#32
  | 5 => k0_off26 c 1280#32

theorem offR1_inb (p : Fin 6) (c : Dev nD) : Inb 128 (offR1 p c) :=
  match p with
  | 0 => k0_off24_inb c 0
  | 1 => k0_off25_inb c 0
  | 2 => k0_off26_inb c 0
  | 3 => k0_off24_inb c 1
  | 4 => k0_off25_inb c 1
  | 5 => k0_off26_inb c 1

theorem offOwn_packed (p : Fin 6) (c : Dev nD) : (rR 64 (offOwn p c) (offOwn_inb p c)).PackedRows (EltTy.packing .bf16) :=
  match p with
  | 0 => k0_off12_packedbf16 c 0
  | 1 => k0_off13_packedbf16 c 0
  | 2 => k0_off14_packedbf16 c 0
  | 3 => k0_off12_packedbf16 c 1
  | 4 => k0_off13_packedbf16 c 1
  | 5 => k0_off14_packedbf16 c 1

theorem offG0_words (p : Fin 6) (c : Dev nD) : (rR 64 (offG0 p c) (offG0_inb p c)).WholeWords (EltTy.packing .bf16) :=
  match p with
  | 0 => k0_off15_wordsbf16 c 0
  | 1 => k0_off16_wordsbf16 c 0
  | 2 => k0_off17_wordsbf16 c 0
  | 3 => k0_off15_wordsbf16 c 1
  | 4 => k0_off16_wordsbf16 c 1
  | 5 => k0_off17_wordsbf16 c 1

theorem offG1_words (p : Fin 6) (c : Dev nD) : (rR 128 (offG1 p c) (offG1_inb p c)).WholeWords (EltTy.packing .bf16) :=
  match p with
  | 0 => k0_off18_wordsbf16 c 0
  | 1 => k0_off20_wordsbf16 c 0
  | 2 => k0_off22_wordsbf16 c 0
  | 3 => k0_off18_wordsbf16 c 1
  | 4 => k0_off20_wordsbf16 c 1
  | 5 => k0_off22_wordsbf16 c 1

/-- The rows of the two exchange buffers part `p` uses at exchange 0. -/
abbrev offX0 (p : Fin 6) : Fin 2 → ℕ := ![256 * p.val, 0]

theorem offX0_inb (p : Fin 6) : Inb 128 (offX0 p) :=
  match p with
  | 0 => inb_S1536x1536_S128x1536_0_0
  | 1 => inb_S1536x1536_S128x1536_256_0
  | 2 => inb_S1536x1536_S128x1536_512_0
  | 3 => inb_S1536x1536_S128x1536_768_0
  | 4 => inb_S1536x1536_S128x1536_1024_0
  | 5 => inb_S1536x1536_S128x1536_1280_0

theorem offX0_packed (p : Fin 6) : (rR 128 (offX0 p) (offX0_inb p)).PackedRows (EltTy.packing .bf16) :=
  match p with
  | 0 => packedbf16_S1536x1536_S128x1536_0_0
  | 1 => packedbf16_S1536x1536_S128x1536_256_0
  | 2 => packedbf16_S1536x1536_S128x1536_512_0
  | 3 => packedbf16_S1536x1536_S128x1536_768_0
  | 4 => packedbf16_S1536x1536_S128x1536_1024_0
  | 5 => packedbf16_S1536x1536_S128x1536_1280_0

theorem offX0_words (p : Fin 6) : (rR 128 (offX0 p) (offX0_inb p)).WholeWords (EltTy.packing .bf16) :=
  match p with
  | 0 => wordsbf16_S1536x1536_S128x1536_0_0
  | 1 => wordsbf16_S1536x1536_S128x1536_256_0
  | 2 => wordsbf16_S1536x1536_S128x1536_512_0
  | 3 => wordsbf16_S1536x1536_S128x1536_768_0
  | 4 => wordsbf16_S1536x1536_S128x1536_1024_0
  | 5 => wordsbf16_S1536x1536_S128x1536_1280_0

/-- The rows of the two exchange buffers part `p` uses at exchange 1. -/
abbrev offX1 (p : Fin 6) : Fin 2 → ℕ := ![256 * p.val + 128, 0]

theorem offX1_inb (p : Fin 6) : Inb 64 (offX1 p) :=
  match p with
  | 0 => inb_S1536x1536_S64x1536_128_0
  | 1 => inb_S1536x1536_S64x1536_384_0
  | 2 => inb_S1536x1536_S64x1536_640_0
  | 3 => inb_S1536x1536_S64x1536_896_0
  | 4 => inb_S1536x1536_S64x1536_1152_0
  | 5 => inb_S1536x1536_S64x1536_1408_0

theorem offX1_packed (p : Fin 6) : (rR 64 (offX1 p) (offX1_inb p)).PackedRows (EltTy.packing .bf16) :=
  match p with
  | 0 => packedbf16_S1536x1536_S64x1536_128_0
  | 1 => packedbf16_S1536x1536_S64x1536_384_0
  | 2 => packedbf16_S1536x1536_S64x1536_640_0
  | 3 => packedbf16_S1536x1536_S64x1536_896_0
  | 4 => packedbf16_S1536x1536_S64x1536_1152_0
  | 5 => packedbf16_S1536x1536_S64x1536_1408_0

theorem offX1_words (p : Fin 6) : (rR 64 (offX1 p) (offX1_inb p)).WholeWords (EltTy.packing .bf16) :=
  match p with
  | 0 => wordsbf16_S1536x1536_S64x1536_128_0
  | 1 => wordsbf16_S1536x1536_S64x1536_384_0
  | 2 => wordsbf16_S1536x1536_S64x1536_640_0
  | 3 => wordsbf16_S1536x1536_S64x1536_896_0
  | 4 => wordsbf16_S1536x1536_S64x1536_1152_0
  | 5 => wordsbf16_S1536x1536_S64x1536_1408_0

/-- The rows of the two exchange buffers part `p` uses at exchange 2. -/
abbrev offX2 (p : Fin 6) : Fin 2 → ℕ := ![256 * p.val + 192, 0]

theorem offX2_inb (p : Fin 6) : Inb 64 (offX2 p) :=
  match p with
  | 0 => inb_S1536x1536_S64x1536_192_0
  | 1 => inb_S1536x1536_S64x1536_448_0
  | 2 => inb_S1536x1536_S64x1536_704_0
  | 3 => inb_S1536x1536_S64x1536_960_0
  | 4 => inb_S1536x1536_S64x1536_1216_0
  | 5 => inb_S1536x1536_S64x1536_1472_0

theorem offX2_packed (p : Fin 6) : (rR 64 (offX2 p) (offX2_inb p)).PackedRows (EltTy.packing .bf16) :=
  match p with
  | 0 => packedbf16_S1536x1536_S64x1536_192_0
  | 1 => packedbf16_S1536x1536_S64x1536_448_0
  | 2 => packedbf16_S1536x1536_S64x1536_704_0
  | 3 => packedbf16_S1536x1536_S64x1536_960_0
  | 4 => packedbf16_S1536x1536_S64x1536_1216_0
  | 5 => packedbf16_S1536x1536_S64x1536_1472_0

theorem offX2_words (p : Fin 6) : (rR 64 (offX2 p) (offX2_inb p)).WholeWords (EltTy.packing .bf16) :=
  match p with
  | 0 => wordsbf16_S1536x1536_S64x1536_192_0
  | 1 => wordsbf16_S1536x1536_S64x1536_448_0
  | 2 => wordsbf16_S1536x1536_S64x1536_704_0
  | 3 => wordsbf16_S1536x1536_S64x1536_960_0
  | 4 => wordsbf16_S1536x1536_S64x1536_1216_0
  | 5 => wordsbf16_S1536x1536_S64x1536_1472_0

/-- The device part `p` exchanges with at exchange `s`. -/
def devS (p : Fin 6) (s : Fin 5) (c : Dev nD) : ℕ :=
  match s, p with
  | 0, 0 => k0_dev4 c
  | 0, 1 => k0_dev5 c
  | 0, 2 => k0_dev6 c
  | 0, 3 => k0_dev7 c
  | 0, 4 => k0_dev8 c
  | 0, 5 => k0_dev9 c
  | 1, 0 => k0_dev10 c
  | 1, 1 => k0_dev11 c
  | 1, 2 => k0_dev12 c
  | 1, 3 => k0_dev13 c
  | 1, 4 => k0_dev14 c
  | 1, 5 => k0_dev15 c
  | 2, 0 => k0_dev16 c
  | 2, 1 => k0_dev17 c
  | 2, 2 => k0_dev18 c
  | 2, 3 => k0_dev19 c
  | 2, 4 => k0_dev20 c
  | 2, 5 => k0_dev21 c
  | 3, 0 => k0_dev22 c
  | 3, 1 => k0_dev23 c
  | 3, 2 => k0_dev24 c
  | 3, 3 => k0_dev25 c
  | 3, 4 => k0_dev26 c
  | 3, 5 => k0_dev27 c
  | 4, 0 => k0_dev28 c
  | 4, 1 => k0_dev29 c
  | 4, 2 => k0_dev30 c
  | 4, 3 => k0_dev31 c
  | 4, 4 => k0_dev32 c
  | 4, 5 => k0_dev33 c

theorem devS_lt (p : Fin 6) (s : Fin 5) (c : Dev nD) : devS p s c < nD :=
  match s, p with
  | 0, 0 => k0_dev4_lt c
  | 0, 1 => k0_dev5_lt c
  | 0, 2 => k0_dev6_lt c
  | 0, 3 => k0_dev7_lt c
  | 0, 4 => k0_dev8_lt c
  | 0, 5 => k0_dev9_lt c
  | 1, 0 => k0_dev10_lt c
  | 1, 1 => k0_dev11_lt c
  | 1, 2 => k0_dev12_lt c
  | 1, 3 => k0_dev13_lt c
  | 1, 4 => k0_dev14_lt c
  | 1, 5 => k0_dev15_lt c
  | 2, 0 => k0_dev16_lt c
  | 2, 1 => k0_dev17_lt c
  | 2, 2 => k0_dev18_lt c
  | 2, 3 => k0_dev19_lt c
  | 2, 4 => k0_dev20_lt c
  | 2, 5 => k0_dev21_lt c
  | 3, 0 => k0_dev22_lt c
  | 3, 1 => k0_dev23_lt c
  | 3, 2 => k0_dev24_lt c
  | 3, 3 => k0_dev25_lt c
  | 3, 4 => k0_dev26_lt c
  | 3, 5 => k0_dev27_lt c
  | 4, 0 => k0_dev28_lt c
  | 4, 1 => k0_dev29_lt c
  | 4, 2 => k0_dev30_lt c
  | 4, 3 => k0_dev31_lt c
  | 4, 4 => k0_dev32_lt c
  | 4, 5 => k0_dev33_lt c

theorem inbRs (p : Fin 6) (s : Fin 3) : ∀ a, (![p.val, s.val] : Fin 2 → ℕ) a + S1x1.size a ≤ S6x3.size a :=
  match p, s with
  | 0, 0 => inb_S6x3_S1x1_0_0
  | 0, 1 => inb_S6x3_S1x1_0_1
  | 0, 2 => inb_S6x3_S1x1_0_2
  | 1, 0 => inb_S6x3_S1x1_1_0
  | 1, 1 => inb_S6x3_S1x1_1_1
  | 1, 2 => inb_S6x3_S1x1_1_2
  | 2, 0 => inb_S6x3_S1x1_2_0
  | 2, 1 => inb_S6x3_S1x1_2_1
  | 2, 2 => inb_S6x3_S1x1_2_2
  | 3, 0 => inb_S6x3_S1x1_3_0
  | 3, 1 => inb_S6x3_S1x1_3_1
  | 3, 2 => inb_S6x3_S1x1_3_2
  | 4, 0 => inb_S6x3_S1x1_4_0
  | 4, 1 => inb_S6x3_S1x1_4_1
  | 4, 2 => inb_S6x3_S1x1_4_2
  | 5, 0 => inb_S6x3_S1x1_5_0
  | 5, 1 => inb_S6x3_S1x1_5_1
  | 5, 2 => inb_S6x3_S1x1_5_2

theorem inbAg (p : Fin 6) (k : Fin 2) : ∀ a, (![p.val, k.val] : Fin 2 → ℕ) a + S1x1.size a ≤ S6x2.size a :=
  match p, k with
  | 0, 0 => inb_S6x2_S1x1_0_0
  | 0, 1 => inb_S6x2_S1x1_0_1
  | 1, 0 => inb_S6x2_S1x1_1_0
  | 1, 1 => inb_S6x2_S1x1_1_1
  | 2, 0 => inb_S6x2_S1x1_2_0
  | 2, 1 => inb_S6x2_S1x1_2_1
  | 3, 0 => inb_S6x2_S1x1_3_0
  | 3, 1 => inb_S6x2_S1x1_3_1
  | 4, 0 => inb_S6x2_S1x1_4_0
  | 4, 1 => inb_S6x2_S1x1_4_1
  | 5, 0 => inb_S6x2_S1x1_5_0
  | 5, 1 => inb_S6x2_S1x1_5_1

/-- One semaphore of an array of exchanges. -/
abbrev rsSem (a : DmaSems sig S6x3) (p : Fin 6) (s : Fin 3) : DmaSem sig :=
  ((a.slice (Rect.unit (s := S6x3) ![p.val, s.val] S1x1.size (inbRs p s))).squeeze S_ squeezes_S1x1_S_).sem

abbrev agSem (a : DmaSems sig S6x2) (p : Fin 6) (k : Fin 2) : DmaSem sig :=
  ((a.slice (Rect.unit (s := S6x2) ![p.val, k.val] S1x1.size (inbAg p k))).squeeze S_ squeezes_S1x1_S_).sem

/-! ## The steps -/

/-- Signal the three neighbours' barriers. -/
def signals (c : Dev nD) (k : PR F) : PR F :=
  .op (.semSignal ((⟨k0_dev1 c, k0_dev1_lt c⟩ : Dev nD), .tc) (SemArray.scalar (sig.barrier 0 rfl) : Sems sig S_).sem (1#32 : BitVec 32).toInt) fun _ =>
  .op (.semSignal ((⟨k0_dev2 c, k0_dev2_lt c⟩ : Dev nD), .tc) (SemArray.scalar (sig.barrier 0 rfl) : Sems sig S_).sem (1#32 : BitVec 32).toInt) fun _ =>
  .op (.semSignal ((⟨k0_dev3 c, k0_dev3_lt c⟩ : Dev nD), .tc) (SemArray.scalar (sig.barrier 0 rfl) : Sems sig S_).sem (1#32 : BitVec 32).toInt) fun _ => k

/-- Wait for the three neighbours' signals. -/
def waitBar (k : PR F) : PR F :=
  .op (.semWait (SemArray.scalar (sig.barrier 0 rfl) : Sems sig S_).sem (3#32 : BitVec 32).toInt) fun _ => k

/-- Round the two factors into their narrow copies. -/
def casts (k : PR F) : PR F :=
  .op (.load mA (Rect.unit (s := S1536x768) ![0, 0] S1536x768.size inb_S1536x768_S1536x768_0_0).toLoadRect (View.loadsAt_vmem h_S1536x768)) fun v =>
  .op (.load mAbf (Rect.unit (s := S1536x768) ![0, 0] S1536x768.size inb_S1536x768_S1536x768_0_0).toLoadRect (View.loadsAt_vmem h_S1536x768)) fun _ =>
  .op (.store mAbf (Rect.unit (s := S1536x768) ![0, 0] S1536x768.size inb_S1536x768_S1536x768_0_0) (k0_pay2 v) Finset.univ (View.stores_vmem h_S1536x768 ((Memref.isWhole_whole cc0_scratch0).storeExact_slice rfl _ packedbf16_S1536x768_S1536x768_0_0) (fun _ => rfl)) (.inl rfl)) fun _ =>
  .op (.load mB (Rect.unit (s := S768x1536) ![0, 0] S768x1536.size inb_S768x1536_S768x1536_0_0).toLoadRect (View.loadsAt_vmem h_S768x1536)) fun w =>
  .op (.load mBbf (Rect.unit (s := S768x1536) ![0, 0] S768x1536.size inb_S768x1536_S768x1536_0_0).toLoadRect (View.loadsAt_vmem h_S768x1536)) fun _ =>
  .op (.store mBbf (Rect.unit (s := S768x1536) ![0, 0] S768x1536.size inb_S768x1536_S768x1536_0_0) (k0_pay3 w) Finset.univ (View.stores_vmem h_S768x1536 ((Memref.isWhole_whole cc0_scratch1).storeExact_slice rfl _ packedbf16_S768x1536_S768x1536_0_0) (fun _ => rfl)) (.inl rfl)) fun _ => k

/-- Multiply 128 rows of the left factor by the right factor into 128 rows of the product. -/
def mm (oA : Fin 2 → ℕ) (hA : ∀ a, oA a + S128x768.size a ≤ S1536x768.size a) (o : Fin 2 → ℕ) (h : Inb 128 o) (k : PR F) : PR F :=
  .op (.load mAbf (Rect.unit (s := S1536x768) oA S128x768.size hA).toLoadRect (View.loadsAt_vmem h_S128x768)) fun v =>
  .op (.load mBbf (Rect.unit (s := S768x1536) ![0, 0] S768x1536.size inb_S768x1536_S768x1536_0_0).toLoadRect (View.loadsAt_vmem h_S768x1536)) fun w =>
  .op (.load mP (rR 128 o h).toLoadRect (View.loadsAt_vmem h_S128x1536)) fun _ =>
  .op (.store mP (rR 128 o h) (k0_pay4 v w) Finset.univ (View.stores_vmem_bits_univ h_S128x1536 rfl) (.inl rfl)) fun _ => k

/-- Round `n` rows of the product into the outgoing buffer. -/
def copyOut (n : ℕ) (hn : 0 < (SR n).numel) (o : Fin 2 → ℕ) (h : Inb n o) (o' : Fin 2 → ℕ) (h' : Inb n o')
    (hp : (rR n o' h').PackedRows (EltTy.packing .bf16)) (k : PR F) : PR F :=
  .op (.load mP (rR n o h).toLoadRect (View.loadsAt_vmem hn)) fun v =>
  .op (.load mStage (rR n o' h').toLoadRect (View.loadsAt_vmem hn)) fun _ =>
  .op (.store mStage (rR n o' h') (payTr n v) Finset.univ (View.stores_vmem hn ((Memref.isWhole_whole cc0_scratch3).storeExact_slice rfl _ hp) (fun _ => rfl)) (.inl rfl)) fun _ => k

/-- Copy `n` rows of one buffer to the same rows of another on the device `d`. -/
def send (n : ℕ) (m : Memref sig .tc .vmem S1536x1536 .bf16) (hm : m.IsWhole) (m' : Memref sig .tc .vmem S1536x1536 .bf16) (hm' : m'.IsWhole)
    (o : Fin 2 → ℕ) (h : Inb n o) (hw : (rR n o h).WholeWords (EltTy.packing .bf16)) (d : Dev nD) (sS sR : DmaSem sig) (k : PR F) : PR F :=
  .op (.enqueueDma (sl m n o h) (.remote (Dev.tc d) (sl m' n o h) (.dma sS)) (.dma sR) (hm.wordExact_slice rfl _ hw) (hm'.wordExact_slice rfl _ hw)
    ⟨⟨rfl, Or.inl rfl⟩, trivial⟩) fun _ => k

/-- Wait until a copy of `n` rows is through, on the semaphore `sm`. -/
def await (n : ℕ) (m : Memref sig .tc .vmem S1536x1536 .bf16) (hm : m.IsWhole) (m' : Memref sig .tc .vmem S1536x1536 .bf16) (hm' : m'.IsWhole)
    (o : Fin 2 → ℕ) (h : Inb n o) (hw : (rR n o h).WholeWords (EltTy.packing .bf16)) (sm : DmaSem sig) (k : PR F) : PR F :=
  .op (.waitDma2 sm (sl m n o h) (sl m' n o h) (hm.wordExact_slice rfl _ hw) (hm'.wordExact_slice rfl _ hw)) fun _ => k

/-- Add `n` arrived rows to the product. -/
def addIn (n : ℕ) (hn : 0 < (SR n).numel) (o : Fin 2 → ℕ) (h : Inb n o) (o' : Fin 2 → ℕ) (h' : Inb n o') (k : PR F) : PR F :=
  .op (.load mP (rR n o h).toLoadRect (View.loadsAt_vmem hn)) fun v =>
  .op (.load mScr (rR n o' h').toLoadRect (View.loadsAt_vmem hn)) fun w =>
  .op (.load mP (rR n o h).toLoadRect (View.loadsAt_vmem hn)) fun _ =>
  .op (.store mP (rR n o h) (payAdd n v w) Finset.univ (View.stores_vmem_bits_univ hn rfl) (.inl rfl)) fun _ => k

/-- Apply the activation to the 64 owned rows: the result's rows, and their narrow copy to send back. -/
def actOwn (o : Fin 2 → ℕ) (h : Inb 64 o) (hp : (rR 64 o h).PackedRows (EltTy.packing .bf16)) (k : PR F) : PR F :=
  .op (.load mP (rR 64 o h).toLoadRect (View.loadsAt_vmem h_S64x1536)) fun v =>
  .op (.load mOut (rR 64 o h).toLoadRect (View.loadsAt_vmem h_S64x1536)) fun _ =>
  .op (.store mOut (rR 64 o h) (payAct 64 v) Finset.univ (View.stores_vmem_bits_univ h_S64x1536 rfl) (.inl rfl)) fun _ =>
  .op (.load mAg (rR 64 o h).toLoadRect (View.loadsAt_vmem h_S64x1536)) fun _ =>
  .op (.store mAg (rR 64 o h) (payActTr 64 v) Finset.univ (View.stores_vmem h_S64x1536 ((Memref.isWhole_whole cc0_scratch5).storeExact_slice rfl _ hp) (fun _ => rfl)) (.inl rfl)) fun _ => k

/-- Widen `n` rows that came back into the result. -/
def copyBack (n : ℕ) (hn : 0 < (SR n).numel) (o : Fin 2 → ℕ) (h : Inb n o) (k : PR F) : PR F :=
  .op (.load mAg (rR n o h).toLoadRect (View.loadsAt_vmem hn)) fun v =>
  .op (.load mOut (rR n o h).toLoadRect (View.loadsAt_vmem hn)) fun _ =>
  .op (.store mOut (rR n o h) (payExt n v) Finset.univ (View.stores_vmem_bits_univ hn rfl) (.inl rfl)) fun _ => k

/-! ## A part's share of each round -/

abbrev isStage : mStage.IsWhole := Memref.isWhole_whole cc0_scratch3
abbrev isScr : mScr.IsWhole := Memref.isWhole_whole cc0_scratch4
abbrev isAg : mAg.IsWhole := Memref.isWhole_whole cc0_scratch5

/-- The device part `p` exchanges with at exchange `s`. -/
abbrev dv (p : Fin 6) (s : Fin 5) (c : Dev nD) : Dev nD := ⟨devS p s c, devS_lt p s c⟩

/-- Multiply the rows to send first and round them. -/
def pack0 (p : Fin 6) (c : Dev nD) (k : PR F) : PR F :=
  mm (offSendA p c) (offSendA_inb p c) (offSend p c) (offSend_inb p c) <|
  copyOut 128 h_S128x1536 (offSend p c) (offSend_inb p c) (offX0 p) (offX0_inb p) (offX0_packed p) k

def send0 (p : Fin 6) (c : Dev nD) (k : PR F) : PR F :=
  send 128 mStage isStage mScr isScr (offX0 p) (offX0_inb p) (offX0_words p) (dv p 0 c) (rsSem cc0_scratch6 p 0) (rsSem cc0_scratch7 p 0) k

def keep (p : Fin 6) (c : Dev nD) (k : PR F) : PR F :=
  mm (offKeepA p c) (offKeepA_inb p c) (offKeep p c) (offKeep_inb p c) k

/-- The first exchange arrives and the second leaves. -/
def round0 (p : Fin 6) (c : Dev nD) (k : PR F) : PR F :=
  await 128 mScr isScr mStage isStage (offX0 p) (offX0_inb p) (offX0_words p) (rsSem cc0_scratch6 p 0) <|
  await 128 mStage isStage mScr isScr (offX0 p) (offX0_inb p) (offX0_words p) (rsSem cc0_scratch7 p 0) <|
  addIn 128 h_S128x1536 (offKeep p c) (offKeep_inb p c) (offX0 p) (offX0_inb p) <|
  copyOut 64 h_S64x1536 (offSend1 p c) (offSend1_inb p c) (offX1 p) (offX1_inb p) (offX1_packed p) <|
  send 64 mStage isStage mScr isScr (offX1 p) (offX1_inb p) (offX1_words p) (dv p 1 c) (rsSem cc0_scratch6 p 1) (rsSem cc0_scratch7 p 1) k

/-- The second arrives and the third leaves. -/
def round1 (p : Fin 6) (c : Dev nD) (k : PR F) : PR F :=
  await 64 mScr isScr mStage isStage (offX1 p) (offX1_inb p) (offX1_words p) (rsSem cc0_scratch6 p 1) <|
  await 64 mStage isStage mScr isScr (offX1 p) (offX1_inb p) (offX1_words p) (rsSem cc0_scratch7 p 1) <|
  addIn 64 h_S64x1536 (offOwn p c) (offOwn_inb p c) (offX1 p) (offX1_inb p) <|
  copyOut 64 h_S64x1536 (offOwn p c) (offOwn_inb p c) (offX2 p) (offX2_inb p) (offX2_packed p) <|
  send 64 mStage isStage mScr isScr (offX2 p) (offX2_inb p) (offX2_words p) (dv p 2 c) (rsSem cc0_scratch6 p 2) (rsSem cc0_scratch7 p 2) k

/-- The third arrives, completing the sum; the activated rows leave. -/
def round2 (p : Fin 6) (c : Dev nD) (k : PR F) : PR F :=
  await 64 mScr isScr mStage isStage (offX2 p) (offX2_inb p) (offX2_words p) (rsSem cc0_scratch6 p 2) <|
  await 64 mStage isStage mScr isScr (offX2 p) (offX2_inb p) (offX2_words p) (rsSem cc0_scratch7 p 2) <|
  addIn 64 h_S64x1536 (offOwn p c) (offOwn_inb p c) (offX2 p) (offX2_inb p) <|
  actOwn (offOwn p c) (offOwn_inb p c) (offOwn_packed p c) <|
  send 64 mAg isAg mAg isAg (offG0 p c) (offG0_inb p c) (offG0_words p c) (dv p 3 c) (agSem cc0_scratch8 p 0) (agSem cc0_scratch9 p 0) k

/-- The first rows come back and both halves leave again. -/
def round3 (p : Fin 6) (c : Dev nD) (k : PR F) : PR F :=
  await 64 mAg isAg mAg isAg (offG0 p c) (offG0_inb p c) (offG0_words p c) (agSem cc0_scratch8 p 0) <|
  await 64 mAg isAg mAg isAg (offG0 p c) (offG0_inb p c) (offG0_words p c) (agSem cc0_scratch9 p 0) <|
  send 128 mAg isAg mAg isAg (offG1 p c) (offG1_inb p c) (offG1_words p c) (dv p 4 c) (agSem cc0_scratch8 p 1) (agSem cc0_scratch9 p 1) <|
  copyBack 64 h_S64x1536 (offR0 p c) (offR0_inb p c) k

/-- The last rows come back. -/
def round4 (p : Fin 6) (c : Dev nD) (k : PR F) : PR F :=
  await 128 mAg isAg mAg isAg (offG1 p c) (offG1_inb p c) (offG1_words p c) (agSem cc0_scratch8 p 1) <|
  await 128 mAg isAg mAg isAg (offG1 p c) (offG1_inb p c) (offG1_words p c) (agSem cc0_scratch9 p 1) <|
  copyBack 128 h_S128x1536 (offR1 p c) (offR1_inb p c) k

/-- A step for each part in turn. -/
def each (f : Fin 6 → Dev nD → PR F → PR F) (c : Dev nD) (k : PR F) : PR F :=
  f 0 c <| f 1 c <| f 2 c <| f 3 c <| f 4 c <| f 5 c k

/-- Everything after the device reads its number. -/
def rest (c : Dev nD) : PR F :=
  signals c <| casts <|
  pack0 0 c <| waitBar <| send0 0 c <|
  pack0 1 c <| send0 1 c <| pack0 2 c <| send0 2 c <| pack0 3 c <| send0 3 c <| pack0 4 c <| send0 4 c <| pack0 5 c <| send0 5 c <|
  each keep c <| each round0 c <| each round1 c <| each round2 c <| each round3 c <| each round4 c <| .ret ⟨⟩

set_option maxRecDepth 65536 in
set_option maxHeartbeats 4000000 in
/-- The printed body is the steps above. -/
theorem body_eq (t : Fin cfg0.N) : bodyAt0 (F := F) t = .op .deviceId (fun c => rest (F := F) c) := rfl

end Cert.KernelIdeal.Hand

end
-- ==== Proof.Geometry.lean ====
/- Which rows and which devices each step of the kernel touches, as plain arithmetic on the device's number:
   the offsets and neighbours the kernel computes with words, and the row ranges they cut the result into. -/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.KernelIdeal.Hand

open Idealize.ShloMosaic Idealize.ShloMosaic.TcCoe Idealize.SL.Sem Cert.KernelIdeal Cert.KernelIdeal.Gen

variable {F : FTy → Type} [FloatOps F]

/-! ## Neighbours -/

/-- The neighbour of `c` across link `j`: the kernel's three barrier addressees. -/
def flip (j : Fin 3) (c : Dev nD) : Dev nD :=
  match j with
  | 0 => ⟨k0_dev1 c, k0_dev1_lt c⟩
  | 1 => ⟨k0_dev2 c, k0_dev2_lt c⟩
  | 2 => ⟨k0_dev3 c, k0_dev3_lt c⟩

/-- Which side of link `j` the device is on. -/
def side (j : Fin 3) (c : Dev nD) : ℕ :=
  match j with
  | 0 => (c.val + c.val / 2) % 2
  | 1 => (c.val / 2) % 2
  | 2 => (c.val / 4) % 2

/-- The link part `p` uses at exchange `s`. -/
def link (p : Fin 6) (s : Fin 5) : Fin 3 :=
  match s with
  | 0 => ⟨p.val % 3, by omega⟩
  | 1 => ⟨(p.val + 1) % 3, by omega⟩
  | 2 => ⟨(p.val + 2) % 3, by omega⟩
  | 3 => ⟨(p.val + 1) % 3, by omega⟩
  | 4 => ⟨p.val % 3, by omega⟩

/-- The device part `p` of `c` exchanges with at exchange `s`. -/
def peer (p : Fin 6) (s : Fin 5) (c : Dev nD) : Dev nD := flip (link p s) c

theorem flip_flip (j : Fin 3) (c : Dev nD) : flip j (flip j c) = c := by
  revert j c; decide +kernel

theorem peer_peer (p : Fin 6) (s : Fin 5) (c : Dev nD) : peer p s (peer p s c) = c := flip_flip _ c

theorem dv_eq (p : Fin 6) (s : Fin 5) (c : Dev nD) : dv p s c = peer p s c := by
  revert p s c; decide +kernel

/-! ## Row ranges -/

/-- First of the 128 rows part `p` keeps at the first exchange, -/
def keepR (p : Fin 6) (c : Dev nD) : ℕ := 256 * p.val + 128 * side (link p 0) c
/-- sends at the first exchange (and receives back last), -/
def sendR (p : Fin 6) (c : Dev nD) : ℕ := 256 * p.val + 128 * (1 - side (link p 0) c)
/-- of the 64 rows it sends at the second exchange (and receives back first), -/
def send1R (p : Fin 6) (c : Dev nD) : ℕ := keepR p c + 64 * (1 - side (link p 1) c)
/-- and owns. -/
def ownR (p : Fin 6) (c : Dev nD) : ℕ := keepR p c + 64 * side (link p 1) c

/-- How many rows exchange `s` moves. -/
def cnt (s : Fin 5) : ℕ := match s with | 0 => 128 | 1 => 64 | 2 => 64 | 3 => 64 | 4 => 128

/-- First of the rows exchange `s` of part `p` leaves `c` from and lands in. -/
def areaR (p : Fin 6) (s : Fin 5) (c : Dev nD) : ℕ :=
  match s with
  | 0 => 256 * p.val
  | 1 => 256 * p.val + 128
  | 2 => 256 * p.val + 192
  | 3 => ownR p c
  | 4 => keepR p c

theorem offSendA_eq (p : Fin 6) (c : Dev nD) : offSendA p c = ![sendR p c, 0] := by revert p c; decide +kernel
theorem offSend_eq (p : Fin 6) (c : Dev nD) : offSend p c = ![sendR p c, 0] := by revert p c; decide +kernel
theorem offKeepA_eq (p : Fin 6) (c : Dev nD) : offKeepA p c = ![keepR p c, 0] := by revert p c; decide +kernel
theorem offKeep_eq (p : Fin 6) (c : Dev nD) : offKeep p c = ![keepR p c, 0] := by revert p c; decide +kernel
theorem offSend1_eq (p : Fin 6) (c : Dev nD) : offSend1 p c = ![send1R p c, 0] := by revert p c; decide +kernel
theorem offOwn_eq (p : Fin 6) (c : Dev nD) : offOwn p c = ![ownR p c, 0] := by revert p c; decide +kernel
theorem offG0_eq (p : Fin 6) (c : Dev nD) : offG0 p c = ![ownR p c, 0] := by revert p c; decide +kernel
theorem offG1_eq (p : Fin 6) (c : Dev nD) : offG1 p c = ![keepR p c, 0] := by revert p c; decide +kernel
theorem offR0_eq (p : Fin 6) (c : Dev nD) : offR0 p c = ![send1R p c, 0] := by revert p c; decide +kernel
theorem offR1_eq (p : Fin 6) (c : Dev nD) : offR1 p c = ![sendR p c, 0] := by revert p c; decide +kernel

theorem sendR_peer (p : Fin 6) (c : Dev nD) : sendR p (peer p 0 c) = keepR p c := by revert p c; decide +kernel
theorem send1R_peer (p : Fin 6) (c : Dev nD) : send1R p (peer p 1 c) = ownR p c := by revert p c; decide +kernel
theorem ownR_peer2 (p : Fin 6) (c : Dev nD) : ownR p (peer p 2 c) = ownR p c := by revert p c; decide +kernel
theorem ownR_peer3 (p : Fin 6) (c : Dev nD) : ownR p (peer p 3 c) = send1R p c := by revert p c; decide +kernel
theorem keepR_peer4 (p : Fin 6) (c : Dev nD) : keepR p (peer p 4 c) = sendR p c := by revert p c; decide +kernel

theorem side_le (j : Fin 3) (c : Dev nD) : side j c = 0 ∨ side j c = 1 := by revert j c; decide +kernel

/-- The indices of `n` whole rows from `lo` on. -/
def rows (lo n : ℕ) : Finset S1536x1536.Idx := Finset.univ.filter fun i => lo ≤ (i 0).val ∧ (i 0).val < lo + n

theorem mem_rows {lo n : ℕ} {i : S1536x1536.Idx} : i ∈ rows lo n ↔ lo ≤ (i 0).val ∧ (i 0).val < lo + n := by
  unfold rows; rw [Finset.mem_filter]; exact ⟨fun h => h.2, fun h => ⟨Finset.mem_univ _, h⟩⟩

theorem rows_disjoint {lo n lo' n' : ℕ} (h : lo + n ≤ lo' ∨ lo' + n' ≤ lo) : Disjoint (rows lo n) (rows lo' n') := by
  rw [Finset.disjoint_left]; intro i hi hi'; rw [mem_rows] at hi hi'; omega

theorem rows_append {lo n m : ℕ} : rows lo (n + m) = rows lo n ∪ rows (lo + n) m := by
  ext i; rw [Finset.mem_union, mem_rows, mem_rows, mem_rows]; omega

theorem rR_set {n lo : ℕ} {o : Fin 2 → ℕ} (ho : o = ![lo, 0]) (h : Inb n o) : (rR n o h).set = rows lo n := by
  subst ho; ext i
  rw [Rect.mem_set_unit, mem_rows]
  constructor
  · intro hi; exact hi 0
  · intro hi a
    match a with
    | 0 => exact hi
    | 1 => exact ⟨Nat.zero_le _, by have := (i 1).isLt; show (i 1).val < 0 + 1536; rw [Nat.zero_add]; exact this⟩

/-- Part `p`'s rows, cut in the two halves of the first exchange. -/
theorem rows_part (p : Fin 6) (c : Dev nD) : rows (256 * p.val) 256 = rows (sendR p c) 128 ∪ rows (keepR p c) 128 := by
  unfold sendR keepR
  rcases side_le (link p 0) c with h | h <;> rw [h] <;> ext i <;> rw [Finset.mem_union, mem_rows, mem_rows, mem_rows] <;> omega
theorem send_keep_disjoint (p : Fin 6) (c : Dev nD) : Disjoint (rows (sendR p c) 128) (rows (keepR p c) 128) := by
  apply rows_disjoint; unfold sendR keepR; rcases side_le (link p 0) c with h | h <;> rw [h] <;> omega

/-- The kept half, cut in the two quarters of the second exchange. -/
theorem rows_keep (p : Fin 6) (c : Dev nD) : rows (keepR p c) 128 = rows (send1R p c) 64 ∪ rows (ownR p c) 64 := by
  unfold send1R ownR
  rcases side_le (link p 1) c with h | h <;> rw [h] <;> ext i <;> rw [Finset.mem_union, mem_rows, mem_rows, mem_rows] <;> omega
theorem send1_own_disjoint (p : Fin 6) (c : Dev nD) : Disjoint (rows (send1R p c) 64) (rows (ownR p c) 64) := by
  apply rows_disjoint; unfold send1R ownR; rcases side_le (link p 1) c with h | h <;> rw [h] <;> omega

/-! ## The semaphores -/

/-- An exchange: a part and a step. -/
abbrev X := Fin 6 × Fin 5

/-- The semaphore on which exchange `x` leaves, -/
def sendSem (x : X) : DmaSem sig :=
  match x with
  | (p, 0) => rsSem cc0_scratch6 p 0
  | (p, 1) => rsSem cc0_scratch6 p 1
  | (p, 2) => rsSem cc0_scratch6 p 2
  | (p, 3) => agSem cc0_scratch8 p 0
  | (p, 4) => agSem cc0_scratch8 p 1
/-- and arrives. -/
def recvSem (x : X) : DmaSem sig :=
  match x with
  | (p, 0) => rsSem cc0_scratch7 p 0
  | (p, 1) => rsSem cc0_scratch7 p 1
  | (p, 2) => rsSem cc0_scratch7 p 2
  | (p, 3) => agSem cc0_scratch9 p 0
  | (p, 4) => agSem cc0_scratch9 p 1

/-- What a transfer semaphore is for: `some (false, x)` the leaving of `x`, `some (true, x)` its arrival. -/
def kind (n : ℕ) : Option (Bool × X) :=
  if 3 ≤ n ∧ n < 21 then some (false, (Fin.ofNat 6 ((n - 3) / 3), Fin.ofNat 5 ((n - 3) % 3)))
  else if 21 ≤ n ∧ n < 39 then some (true, (Fin.ofNat 6 ((n - 21) / 3), Fin.ofNat 5 ((n - 21) % 3)))
  else if 39 ≤ n ∧ n < 51 then some (false, (Fin.ofNat 6 ((n - 39) / 2), Fin.ofNat 5 (3 + (n - 39) % 2)))
  else if 51 ≤ n ∧ n < 63 then some (true, (Fin.ofNat 6 ((n - 51) / 2), Fin.ofNat 5 (3 + (n - 51) % 2)))
  else none

theorem sendSem_val : ∀ x : X, (sendSem x).val = if x.2.val < 3 then 3 + 3 * x.1.val + x.2.val else 39 + 2 * x.1.val + (x.2.val - 3) := by decide +kernel
theorem recvSem_val : ∀ x : X, (recvSem x).val = if x.2.val < 3 then 21 + 3 * x.1.val + x.2.val else 51 + 2 * x.1.val + (x.2.val - 3) := by decide +kernel

theorem kind_send (x : X) : kind (sendSem x).val = some (false, x) := by
  rw [sendSem_val]; revert x; decide +kernel
theorem kind_recv (x : X) : kind (recvSem x).val = some (true, x) := by
  rw [recvSem_val]; revert x; decide +kernel

end Cert.KernelIdeal.Hand

end
-- ==== Proof.Contents.lean ====
/- What every buffer holds at each step: the partial sums a device has after each exchange, what each exchange
   carries, the activated rows that are gathered back, and the result. All as functions of the devices' inputs, row by
   row, with the kernel's own operations. -/
module

public import proofs.«01_k».proof.Proof.Geometry
public import Idealize.ShloMosaic.Lib.Pointwise.Reshape

@[expose] public section

noncomputable section

namespace Cert.KernelIdeal.Hand

open Idealize.ShloMosaic Idealize.ShloMosaic.TcCoe Idealize.SL.Sem Cert.KernelIdeal Cert.KernelIdeal.Gen

variable {F : FTy → Type} [FloatOps F]

/-! ## The operations on one element -/

def one : (SR 1).Idx := fun a => match a with | 0 => ⟨0, Nat.one_pos⟩ | 1 => ⟨0, by decide⟩

/-- Round, add a widened value, activate, widen. -/
def tr (x : Elt F .f32) : Elt F .bf16 := payTr 1 (fun _ => x) one
def ad (x : Elt F .f32) (y : Elt F .bf16) : Elt F .f32 := payAdd 1 (fun _ => x) (fun _ => y) one
def ac (x : Elt F .f32) : Elt F .f32 := payAct 1 (fun _ => x) one
def ex (y : Elt F .bf16) : Elt F .f32 := payExt 1 (fun _ => y) one

theorem payTr_at (n : ℕ) (v : Vec F (SR n) .f32) (j : (SR n).Idx) : payTr n v j = tr (v j) := by
  unfold tr payTr; rw [shapeCast_id, shapeCast_id]; rfl
theorem payAdd_at (n : ℕ) (v : Vec F (SR n) .f32) (w : Vec F (SR n) .bf16) (j : (SR n).Idx) : payAdd n v w j = ad (v j) (w j) := by
  unfold ad payAdd; rw [shapeCast_id, shapeCast_id]; rfl
theorem payAct_at (n : ℕ) (v : Vec F (SR n) .f32) (j : (SR n).Idx) : payAct n v j = ac (v j) := rfl
theorem payActTr_at (n : ℕ) (v : Vec F (SR n) .f32) (j : (SR n).Idx) : payActTr n v j = tr (ac (v j)) := by
  unfold tr payTr payActTr; rw [shapeCast_id, shapeCast_id]; rfl
theorem payExt_at (n : ℕ) (v : Vec F (SR n) .bf16) (j : (SR n).Idx) : payExt n v j = ex (v j) := rfl

/-! ## Indices -/

/-- The index of row `r`, column `k`, in the result, -/
def ix (r : ℕ) (k : Fin 1536) : S1536x1536.Idx := fun a => match a with | 0 => ⟨r % 1536, Nat.mod_lt _ (by decide)⟩ | 1 => k
/-- in the left factor, -/
def ixA (r : ℕ) (k : Fin 768) : S1536x768.Idx := fun a => match a with | 0 => ⟨r % 1536, Nat.mod_lt _ (by decide)⟩ | 1 => k
/-- and in a block of 128 rows. -/
def ixB (r : ℕ) (k : Fin 1536) : S128x1536.Idx := fun a => match a with | 0 => ⟨r % 128, Nat.mod_lt _ (by decide)⟩ | 1 => k

theorem idx_ext {i i' : S1536x1536.Idx} (h0 : (i 0).val = (i' 0).val) (h1 : (i 1).val = (i' 1).val) : i = i' :=
  funext fun a => match a with | 0 => Fin.ext h0 | 1 => Fin.ext h1

theorem row_lt (i : S1536x1536.Idx) : (i 0).val < 1536 := (i 0).isLt

theorem emb0 {n : ℕ} {o : Fin 2 → ℕ} (h : Inb n o) (j : (SR n).Idx) : ((rR n o h).emb j 0).val = o 0 + (j 0).val := by
  rw [Rect.emb_apply]; show o 0 + 1 * (j 0).val = _; rw [Nat.one_mul]
theorem emb1 {n : ℕ} {o : Fin 2 → ℕ} (h : Inb n o) (j : (SR n).Idx) : ((rR n o h).emb j 1).val = o 1 + (j 1).val := by
  rw [Rect.emb_apply]; show o 1 + 1 * (j 1).val = _; rw [Nat.one_mul]

theorem jrow_lt {n : ℕ} (j : (SR n).Idx) : (j 0).val < n := (j 0).isLt

/-! ## The sums -/

variable (a : Dev nD → Vec F S1536x768 .f32) (b : Dev nD → Vec F S768x1536 .f32)

/-- Device `c`'s own product, computed 128 rows at a time. -/
def prod0 (c : Dev nD) : Vec F S1536x1536 .f32 := fun i =>
  k0_pay4 (fun j : S128x768.Idx => k0_pay2 (a c) (ixA (128 * ((i 0).val / 128) + (j 0).val) (j 1))) (k0_pay3 (b c)) (ixB (i 0).val (i 1))

/-- The part a row belongs to. -/
def partOf (i : S1536x1536.Idx) : Fin 6 := Fin.ofNat 6 ((i 0).val / 256)

/-- Exchange number `s`, as one of the five. -/
def step (s : ℕ) : Fin 5 := Fin.ofNat 5 s

/-- Device `c`'s partial sum after `s` exchanges. -/
def sm : ℕ → Dev nD → Vec F S1536x1536 .f32
  | 0, c => prod0 a b c
  | s + 1, c => fun i => ad (sm s c i) (tr (sm s (peer (partOf i) (step s) c) i))

/-- The device that owns the row of `i`, among those `c` gathers from. -/
def ownerQ (c : Dev nD) (q : ℕ) : Dev nD :=
  let p : Fin 6 := Fin.ofNat 6 (q / 4)
  let d := if side (link p 0) c = q / 2 % 2 then c else flip (link p 0) c
  if side (link p 1) d = q % 2 then d else flip (link p 1) d
def owner (c : Dev nD) (i : S1536x1536.Idx) : Dev nD := ownerQ c ((i 0).val / 64)

/-- The rounded activated rows, as device `c` gathers them, -/
def gat (c : Dev nD) : Vec F S1536x1536 .bf16 := fun i => tr (ac (sm a b 3 (owner c i) i))
/-- and its result: its own rows as computed, the gathered ones widened. -/
def res (c : Dev nD) : Vec F S1536x1536 .f32 := fun i => if owner c i = c then ac (sm a b 3 c i) else ex (gat a b c i)

/-- First of the rows of the sum exchange `s` sends. -/
def srcR (p : Fin 6) (s : Fin 5) (c : Dev nD) : ℕ := match s with | 0 => sendR p c | 1 => send1R p c | 2 => ownR p c | 3 => ownR p c | 4 => keepR p c

/-- What exchange `s` of part `p` carries away from `c`, at the rows it lands in. -/
def sent (p : Fin 6) (s : Fin 5) (c : Dev nD) : Vec F S1536x1536 .bf16 :=
  match s with
  | 0 => fun i => tr (sm a b 0 c (ix (srcR p 0 c + ((i 0).val - areaR p 0 c)) (i 1)))
  | 1 => fun i => tr (sm a b 1 c (ix (srcR p 1 c + ((i 0).val - areaR p 1 c)) (i 1)))
  | 2 => fun i => tr (sm a b 2 c (ix (srcR p 2 c + ((i 0).val - areaR p 2 c)) (i 1)))
  | 3 => gat a b c
  | 4 => gat a b c

/-! ## What each step computes -/

theorem part_bounds (p : Fin 6) (c : Dev nD) :
    256 * p.val ≤ keepR p c ∧ keepR p c + 128 ≤ 256 * p.val + 256 ∧ 256 * p.val ≤ sendR p c ∧ sendR p c + 128 ≤ 256 * p.val + 256
      ∧ keepR p c ≤ send1R p c ∧ send1R p c + 64 ≤ keepR p c + 128 ∧ keepR p c ≤ ownR p c ∧ ownR p c + 64 ≤ keepR p c + 128
      ∧ keepR p c % 128 = 0 ∧ sendR p c % 128 = 0 := by
  revert p c; decide +kernel

theorem mm_at (c : Dev nD) {oA o : Fin 2 → ℕ} {lo : ℕ} (hoA : oA = ![lo, 0]) (ho : o = ![lo, 0]) (hlo : lo % 128 = 0)
    (hA : ∀ a, oA a + S128x768.size a ≤ S1536x768.size a) (h : Inb 128 o) (j : (SR 128).Idx) :
    k0_pay4 (fun j => k0_pay2 (a c) ((Rect.unit (s := S1536x768) oA S128x768.size hA).emb j)) (k0_pay3 (b c)) j = sm a b 0 c ((rR 128 o h).emb j) := by
  subst hoA ho
  have h0 : ((rR 128 ![lo, 0] h).emb j 0).val = lo + (j 0).val := emb0 h j
  have h1 : ((rR 128 ![lo, 0] h).emb j 1).val = 0 + (j 1).val := emb1 h j
  have hj := jrow_lt j
  have hb : lo + 128 ≤ 1536 := h 0
  show _ = k0_pay4 _ _ _
  have e1 : ∀ j' : S128x768.Idx, (Rect.unit (s := S1536x768) ![lo, 0] S128x768.size hA).emb j'
      = ixA (128 * (((rR 128 ![lo, 0] h).emb j 0).val / 128) + (j' 0).val) (j' 1) := by
    intro j'
    have hj' : (j' 0).val < 128 := (j' 0).isLt
    funext x
    match x with
    | 0 => apply Fin.ext; rw [Rect.emb_apply, h0]; show lo + 1 * (j' 0).val = (128 * ((lo + (j 0).val) / 128) + (j' 0).val) % 1536; omega
    | 1 => apply Fin.ext; rw [Rect.emb_apply]; show 0 + 1 * (j' 1).val = (j' 1).val; omega
  have e2 : ixB ((rR 128 ![lo, 0] h).emb j 0).val ((rR 128 ![lo, 0] h).emb j 1) = j := by
    funext x
    match x with
    | 0 => apply Fin.ext; show ((rR 128 ![lo, 0] h).emb j 0).val % 128 = (j 0).val; rw [h0]; omega
    | 1 => apply Fin.ext; show ((rR 128 ![lo, 0] h).emb j 1).val = (j 1).val; rw [h1, Nat.zero_add]
  simp only [e1]
  exact congrArg _ e2.symm

theorem sent_lt (p : Fin 6) {s : Fin 5} (hs : s.val < 3) (c : Dev nD) (i : S1536x1536.Idx) :
    sent a b p s c i = tr (sm a b s.val c (ix (srcR p s c + ((i 0).val - areaR p s c)) (i 1))) :=
  match s, hs with | 0, _ => rfl | 1, _ => rfl | 2, _ => rfl

theorem area_bounds (p : Fin 6) (s : Fin 5) (c : Dev nD) : areaR p s c + cnt s ≤ 1536 ∧ srcR p s c + cnt s ≤ 1536 := by
  revert p s c; decide +kernel

theorem copy_at (p : Fin 6) {s : Fin 5} (hs : s.val < 3) (c : Dev nD) {n : ℕ} {o o' : Fin 2 → ℕ}
    (ho : o = ![srcR p s c, 0]) (ho' : o' = ![areaR p s c, 0]) (h : Inb n o) (h' : Inb n o') (j : (SR n).Idx) :
    payTr n (fun j => sm a b s.val c ((rR n o h).emb j)) j = sent a b p s c ((rR n o' h').emb j) := by
  subst ho ho'
  rw [payTr_at, sent_lt a b p hs]
  have h0 : ((rR n ![areaR p s c, 0] h').emb j 0).val = areaR p s c + (j 0).val := emb0 h' j
  have h1 : ((rR n ![areaR p s c, 0] h').emb j 1).val = 0 + (j 1).val := emb1 h' j
  have g0 : ((rR n ![srcR p s c, 0] h).emb j 0).val = srcR p s c + (j 0).val := emb0 h j
  have g1 : ((rR n ![srcR p s c, 0] h).emb j 1).val = 0 + (j 1).val := emb1 h j
  have hl := row_lt ((rR n ![srcR p s c, 0] h).emb j)
  congr 2
  apply idx_ext
  · rw [g0] at hl ⊢; show _ = (srcR p s c + (((rR n ![areaR p s c, 0] h').emb j 0).val - areaR p s c)) % 1536; rw [h0, Nat.mod_eq_of_lt] <;> omega
  · rw [g1]; show _ = ((rR n ![areaR p s c, 0] h').emb j 1).val; rw [h1]

/-- First of the rows of the sum that exchange `s` adds to. -/
def addR (p : Fin 6) (s : Fin 5) (c : Dev nD) : ℕ := match s with | 0 => keepR p c | 1 => ownR p c | 2 => ownR p c | 3 => send1R p c | 4 => sendR p c

theorem srcR_peer (p : Fin 6) (s : Fin 5) (c : Dev nD) : srcR p s (peer p s c) = addR p s c := by revert p s c; decide +kernel
theorem areaR_peer (p : Fin 6) {s : Fin 5} (hs : s.val < 3) (c c' : Dev nD) : areaR p s c = areaR p s c' :=
  match s, hs with | 0, _ => rfl | 1, _ => rfl | 2, _ => rfl
theorem areaR_peer' (p : Fin 6) {s : Fin 5} (hs : 3 ≤ s.val) (c : Dev nD) : areaR p s (peer p s c) = addR p s c := by
  revert p s c; decide +kernel
theorem addR_bounds (p : Fin 6) (s : Fin 5) (c : Dev nD) : 256 * p.val ≤ addR p s c ∧ addR p s c + cnt s ≤ 256 * p.val + 256 := by
  revert p s c; decide +kernel

theorem partOf_eq {p : Fin 6} {i : S1536x1536.Idx} (h : 256 * p.val ≤ (i 0).val) (h' : (i 0).val < 256 * p.val + 256) : partOf i = p := by
  apply Fin.ext; show (i 0).val / 256 % 6 = p.val; omega

theorem add_at (p : Fin 6) {s : Fin 5} (hs : s.val < 3) (c : Dev nD) {o o' : Fin 2 → ℕ}
    (ho : o = ![addR p s c, 0]) (ho' : o' = ![areaR p s c, 0]) (h : Inb (cnt s) o) (h' : Inb (cnt s) o') (j : (SR (cnt s)).Idx) :
    payAdd (cnt s) (fun j => sm a b s.val c ((rR (cnt s) o h).emb j)) (fun j => sent a b p s (peer p s c) ((rR (cnt s) o' h').emb j)) j
      = sm a b (s.val + 1) c ((rR (cnt s) o h).emb j) := by
  subst ho ho'
  rw [payAdd_at, sent_lt a b p hs]
  have h0 : ((rR (cnt s) ![areaR p s c, 0] h').emb j 0).val = areaR p s c + (j 0).val := emb0 h' j
  have h1 : ((rR (cnt s) ![areaR p s c, 0] h').emb j 1).val = 0 + (j 1).val := emb1 h' j
  have g0 : ((rR (cnt s) ![addR p s c, 0] h).emb j 0).val = addR p s c + (j 0).val := emb0 h j
  have g1 : ((rR (cnt s) ![addR p s c, 0] h).emb j 1).val = 0 + (j 1).val := emb1 h j
  have hl := row_lt ((rR (cnt s) ![addR p s c, 0] h).emb j)
  have hj := jrow_lt j
  have hb := addR_bounds p s c
  show _ = ad _ (tr (sm a b s.val (peer (partOf _) (step s.val) c) _))
  rw [partOf_eq (p := p) (by rw [g0]; omega) (by rw [g0]; omega), show step s.val = s from Fin.ext (Nat.mod_eq_of_lt s.isLt)]
  congr 3
  apply idx_ext
  · show (srcR p s (peer p s c) + (((rR (cnt s) ![areaR p s c, 0] h').emb j 0).val - areaR p s (peer p s c))) % 1536 = _
    rw [g0] at hl ⊢; rw [h0, srcR_peer, areaR_peer p hs (peer p s c) c, Nat.mod_eq_of_lt] <;> omega
  · rw [g1]; show ((rR (cnt s) ![areaR p s c, 0] h').emb j 1).val = _; rw [h1]

theorem ownerQ_own : ∀ (p : Fin 6) (c : Dev nD), ownerQ c (ownR p c / 64) = c := by decide +kernel
theorem ownerQ_send1 : ∀ (p : Fin 6) (c : Dev nD), ownerQ c (send1R p c / 64) ≠ c := by decide +kernel
theorem ownerQ_send : ∀ (p : Fin 6) (c : Dev nD) (t : Fin 2), ownerQ c (sendR p c / 64 + t.val) ≠ c := by decide +kernel
theorem ownR_mod : ∀ (p : Fin 6) (c : Dev nD), ownR p c % 64 = 0 ∧ send1R p c % 64 = 0 ∧ sendR p c % 64 = 0 := by decide +kernel
theorem ownerQ_peer : ∀ (p : Fin 6) (c : Dev nD) (t : Fin 4),
    ownerQ (peer p 3 c) (4 * p.val + t.val) = ownerQ c (4 * p.val + t.val) ∧ ownerQ (peer p 4 c) (4 * p.val + t.val) = ownerQ c (4 * p.val + t.val) := by decide +kernel

theorem owner_own {p : Fin 6} {c : Dev nD} {i : S1536x1536.Idx} (hi : i ∈ rows (ownR p c) 64) : owner c i = c := by
  rw [mem_rows] at hi
  have := ownR_mod p c
  have e : (i 0).val / 64 = ownR p c / 64 := by omega
  unfold owner; rw [e]; exact ownerQ_own p c
theorem owner_send1 {p : Fin 6} {c : Dev nD} {i : S1536x1536.Idx} (hi : i ∈ rows (send1R p c) 64) : owner c i ≠ c := by
  rw [mem_rows] at hi
  have := ownR_mod p c
  have e : (i 0).val / 64 = send1R p c / 64 := by omega
  unfold owner; rw [e]; exact ownerQ_send1 p c
theorem owner_send {p : Fin 6} {c : Dev nD} {i : S1536x1536.Idx} (hi : i ∈ rows (sendR p c) 128) : owner c i ≠ c := by
  rw [mem_rows] at hi
  have := ownR_mod p c
  have e : (i 0).val / 64 = sendR p c / 64 + ((i 0).val / 64 - sendR p c / 64) := by omega
  unfold owner; rw [e]; exact ownerQ_send p c ⟨(i 0).val / 64 - sendR p c / 64, by omega⟩

theorem gat_peer {p : Fin 6} {s : Fin 5} (hs : 3 ≤ s.val) {c : Dev nD} {i : S1536x1536.Idx} (hi : i ∈ rows (256 * p.val) 256) :
    gat a b (peer p s c) i = gat a b c i := by
  rw [mem_rows] at hi
  have e : owner (peer p s c) i = owner c i := by
    have h := ownerQ_peer p c ⟨(i 0).val / 64 - 4 * p.val, by omega⟩
    have e : (i 0).val / 64 = 4 * p.val + ((i 0).val / 64 - 4 * p.val) := by omega
    unfold owner; rw [e]
    match s, hs with
    | 3, _ => exact h.1
    | 4, _ => exact h.2
  unfold gat; rw [e]

theorem emb_mem {n lo : ℕ} {o : Fin 2 → ℕ} (ho : o = ![lo, 0]) (h : Inb n o) (j : (SR n).Idx) : (rR n o h).emb j ∈ rows lo n := by
  rw [← rR_set ho h, ← Rect.map_emb_univ]; exact Finset.mem_map_of_mem _ (Finset.mem_univ j)

theorem act_at (p : Fin 6) (c : Dev nD) {o : Fin 2 → ℕ} (ho : o = ![ownR p c, 0]) (h : Inb 64 o) (j : (SR 64).Idx) :
    payAct 64 (fun j => sm a b 3 c ((rR 64 o h).emb j)) j = res a b c ((rR 64 o h).emb j) := by
  rw [payAct_at]; unfold res; rw [if_pos (owner_own (emb_mem ho h j))]
theorem actTr_at (p : Fin 6) (c : Dev nD) {o : Fin 2 → ℕ} (ho : o = ![ownR p c, 0]) (h : Inb 64 o) (j : (SR 64).Idx) :
    payActTr 64 (fun j => sm a b 3 c ((rR 64 o h).emb j)) j = gat a b c ((rR 64 o h).emb j) := by
  rw [payActTr_at]; unfold gat; rw [owner_own (emb_mem ho h j)]
theorem back_at {n lo : ℕ} (c : Dev nD) {o : Fin 2 → ℕ} (ho : o = ![lo, 0]) (hn : ∀ i ∈ rows lo n, owner c i ≠ c) (h : Inb n o) (j : (SR n).Idx) :
    payExt n (fun j => gat a b c ((rR n o h).emb j)) j = res a b c ((rR n o h).emb j) := by
  rw [payExt_at]; unfold res; rw [if_neg (hn _ (emb_mem ho h j))]

end Cert.KernelIdeal.Hand

end
-- ==== Proof.Schedule.lean ====
/- The messages between devices: which semaphore cells there are, what each hands over, and in which order they may be waited on. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barS : Sem sig := (SemArray.scalar (sig.barrier 0 rfl) : Sems sig S_).sem

/-- A cell of a device: its barrier, or the send or receive semaphore of an exchange. -/
abbrev CI := Option (Bool × X)

/-- The exchanges' semaphores (send, receive), -/
abbrev osem : Bool × X → SemLoc sig := fun | (false, x) => .dma (sendSem x) | (true, x) => .dma (recvSem x)
/-- and with the barrier's. -/
abbrev csem : CI → SemLoc sig := fun | none => .reg barS | some y => osem y
abbrev kcell (ck : Dev nD × CI) : GSem nD τ sig := ((ck.1 : Thread nD τ), csem ck.2)

abbrev barCell (c : Dev nD) : GSem nD τ sig := ((c : Thread nD τ), .reg barS)
abbrev sendCell (x : X) (c : Dev nD) : GSem nD τ sig := ((c : Thread nD τ), .dma (sendSem x))
abbrev recvCell (x : X) (c : Dev nD) : GSem nD τ sig := ((c : Thread nD τ), .dma (recvSem x))

/-- The units a transfer of `n` rows credits. -/
def N (n : ℕ) : ℕ := RefSig.tileCredit (SR n) .bf16

theorem N_pos (s : Fin 5) : 0 < N (cnt s) := RefSig.tileCredit_pos _ _ (by revert s; decide)

/-- The device exchange `x` of `c` is with. -/
abbrev prx (x : X) (c : Dev nD) : Dev nD := peer x.1 x.2 c

theorem prx_prx (x : X) (c : Dev nD) : prx x (prx x c) = c := peer_peer _ _ _

/-! ## Rows of the buffers -/

section Pts
variable (c : Dev nD) (S : Finset S1536x1536.Idx) (q : PosShare TreeShare)

def ptA (f : Vec F S1536x768 .bf16) : sProp 𝕄 := ((c : Thread nD τ).loc cc0_scratch0) ↦{q} f
def ptB (f : Vec F S768x1536 .bf16) : sProp 𝕄 := ((c : Thread nD τ).loc cc0_scratch1) ↦{q} f
def ptP (f : Vec F S1536x1536 .f32) : sProp 𝕄 := ((c : Thread nD τ).loc cc0_scratch2) ↦[S]{q} f
def ptStage (f : Vec F S1536x1536 .bf16) : sProp 𝕄 := ((c : Thread nD τ).loc cc0_scratch3) ↦[S]{q} f
def ptScr (f : Vec F S1536x1536 .bf16) : sProp 𝕄 := ((c : Thread nD τ).loc cc0_scratch4) ↦[S]{q} f
def ptAg (f : Vec F S1536x1536 .bf16) : sProp 𝕄 := ((c : Thread nD τ).loc cc0_scratch5) ↦[S]{q} f
def ptOut (f : Vec F S1536x1536 .f32) : sProp 𝕄 := ((c : Thread nD τ).loc cc0_stg2_0) ↦[S]{q} f

/-- The buffer an exchange leaves from, -/
def ptSrc (s : Fin 5) (f : Vec F S1536x1536 .bf16) : sProp 𝕄 := if s.val < 3 then ptStage c S q f else ptAg c S q f
/-- and the one it lands in. -/
def ptDst (s : Fin 5) (f : Vec F S1536x1536 .bf16) : sProp 𝕄 := if s.val < 3 then ptScr c S q f else ptAg c S q f

end Pts

instance ptSrc_storable (c : Dev nD) (S q s) (f : Vec F S1536x1536 .bf16) : BI.Storable (upEmb : UEmb _ 𝕄) (ptSrc (F := F) c S q s f) := by
  unfold ptSrc ptStage ptAg; split <;> infer_instance
instance ptDst_storable (c : Dev nD) (S q s) (f : Vec F S1536x1536 .bf16) : BI.Storable (upEmb : UEmb _ 𝕄) (ptDst (F := F) c S q s f) := by
  unfold ptDst ptScr ptAg; split <;> infer_instance

variable (a : Dev nD → Vec F S1536x768 .f32) (b : Dev nD → Vec F S768x1536 .f32)

/-- The share of its source an exchange takes: the last leaves half behind, whose rows are read while it is under way. -/
def shr (s : Fin 5) : PosShare TreeShare := if s.val < 4 then fullShare else fullShare.left

/-- The rows exchange `x` of `c` lands in, at their device: any contents. -/
def landAny (x : X) (c : Dev nD) : sProp 𝕄 := iprop(∃ f, ptDst (F := F) (prx x c) (rows (areaR x.1 x.2 c) (cnt x.2)) fullShare x.2 f)
/-- What the device across link `j` hands `c` at the barrier. -/
def barPay (c : Dev nD) (j : Fin 3) : sProp 𝕄 := bigSep (Finset.univ.filter fun x : X => link x.1 x.2 = j) fun x => landAny (F := F) x c
def sendPay (x : X) (c : Dev nD) : sProp 𝕄 := ptSrc c (rows (areaR x.1 x.2 c) (cnt x.2)) (shr x.2) x.2 (sent a b x.1 x.2 c)
def recvPay (x : X) (c : Dev nD) : sProp 𝕄 :=
  ptDst c (rows (areaR x.1 x.2 (prx x c)) (cnt x.2)) fullShare x.2 (sent a b x.1 x.2 (prx x c))

/-! ## The schedule -/

/-- One round: a barrier cell has one duty per link, of one unit; a send or receive cell the one duty of its rows' credit. -/
def Rd : Rounds.Schedule (GSem nD τ sig) (Fin 3) 𝕄 where
  duties g r := if r = 0 ∧ g.1.2 = .tc then (match g.2 with
    | .reg _ => Finset.univ
    | .dma q => if (kind q.val).isSome then {0} else ∅) else ∅
  unitless _ := False
  amount g _ _ := match g.2 with
    | .reg _ => 1
    | .dma q => match kind q.val with | some (_, x) => N (cnt x.2) | none => 1
  payload g _ d := match g.2 with
    | .reg _ => barPay g.1.1 d
    | .dma q => match kind q.val with
      | some (false, x) => sendPay a b x g.1.1
      | some (true, x) => recvPay a b x g.1.1
      | none => iprop(emp)
  amount_pos g _ _ _ := by
    split
    · exact Nat.one_pos
    · split
      · exact N_pos _
      · exact Nat.one_pos

instance Rd_payload_storable (g : GSem nD τ sig) (r : ℕ) (d : Fin 3) :
    BI.Storable (upEmb : UEmb _ 𝕄) ((Rd (F := F) a b).payload g r d) := by
  dsimp only [Rd]
  unfold barPay sendPay recvPay landAny
  (repeat' split) <;> infer_instance

section Sched
variable (c : Dev nD) (x : X)

theorem duties_bar : (Rd (F := F) a b).duties (barCell c) 0 = Finset.univ := by dsimp only [Rd]; exact if_pos ⟨rfl, rfl⟩
theorem duties_send : (Rd (F := F) a b).duties (sendCell x c) 0 = {0} := by
  dsimp only [Rd]; rw [if_pos ⟨rfl, rfl⟩, kind_send]; exact if_pos rfl
theorem duties_recv : (Rd (F := F) a b).duties (recvCell x c) 0 = {0} := by
  dsimp only [Rd]; rw [if_pos ⟨rfl, rfl⟩, kind_recv]; exact if_pos rfl
theorem duties_later (g : GSem nD τ sig) : ∀ r, 1 ≤ r → (Rd (F := F) a b).duties g r = ∅ :=
  fun r hr => by dsimp only [Rd]; exact if_neg fun h => by omega

theorem amount_bar (d : Fin 3) : (Rd (F := F) a b).amount (barCell c) 0 d = 1 := rfl
theorem amount_send (d : Fin 3) : (Rd (F := F) a b).amount (sendCell x c) 0 d = N (cnt x.2) := by dsimp only [Rd]; rw [kind_send]
theorem amount_recv (d : Fin 3) : (Rd (F := F) a b).amount (recvCell x c) 0 d = N (cnt x.2) := by dsimp only [Rd]; rw [kind_recv]

theorem expect_bar : (Rd (F := F) a b).expect (barCell c) 0 = 3 := by
  unfold Schedule.expect Schedule.amountOf
  rw [duties_bar, Finset.sum_congr rfl fun d _ => amount_bar a b c d, Finset.sum_const, Finset.card_univ, Fintype.card_fin, smul_eq_mul]
theorem expect_send : (Rd (F := F) a b).expect (sendCell x c) 0 = N (cnt x.2) := by
  unfold Schedule.expect Schedule.amountOf; rw [duties_send, Finset.sum_singleton, amount_send]
theorem expect_recv : (Rd (F := F) a b).expect (recvCell x c) 0 = N (cnt x.2) := by
  unfold Schedule.expect Schedule.amountOf; rw [duties_recv, Finset.sum_singleton, amount_recv]

theorem payload_bar (d : Fin 3) : (Rd (F := F) a b).payload (barCell c) 0 d = barPay c d := rfl
theorem payload_send (d : Fin 3) : (Rd (F := F) a b).payload (sendCell x c) 0 d = sendPay a b x c := by dsimp only [Rd]; rw [kind_send]
theorem payload_recv (d : Fin 3) : (Rd (F := F) a b).payload (recvCell x c) 0 d = recvPay a b x c := by dsimp only [Rd]; rw [kind_recv]

/-- The rest of the barrier cell's round, no duty taken: every landing area. -/
theorem rest_bar : bigSep ((Rd (F := F) a b).duties (barCell c) 0 \ ∅) (fun d => (Rd (F := F) a b).payload (barCell c) 0 d)
    = bigSep Finset.univ fun x : X => landAny (F := F) x c := by
  rw [Finset.sdiff_empty, duties_bar]
  rw [bigSep_fiberwise Finset.univ (fun x : X => link x.1 x.2) (fun x => landAny (F := F) x c),
    show Finset.univ.image (fun x : X => link x.1 x.2) = Finset.univ by decide]
  rfl
theorem rest_send : bigSep ((Rd (F := F) a b).duties (sendCell x c) 0 \ ∅) (fun d => (Rd (F := F) a b).payload (sendCell x c) 0 d) = sendPay a b x c := by
  rw [Finset.sdiff_empty, duties_send, bigSep_singleton, payload_send]
theorem rest_recv : bigSep ((Rd (F := F) a b).duties (recvCell x c) 0 \ ∅) (fun d => (Rd (F := F) a b).payload (recvCell x c) 0 d) = recvPay a b x c := by
  rw [Finset.sdiff_empty, duties_recv, bigSep_singleton, payload_recv]

end Sched

/-! ## What each device owes; the levels -/

/-- The exchanges' place in the order the kernel starts them. -/
def place (x : X) : ℕ := 6 * x.2.val + x.1.val

theorem place_inj : Function.Injective place := fun x y h => by
  obtain ⟨p, s⟩ := x; obtain ⟨p', s'⟩ := y
  simp only [place] at h
  exact Prod.ext (Fin.ext (by simp only; omega)) (Fin.ext (by simp only; omega))

/-- The arrivals `c` still owes its neighbours once it has started its first `n` exchanges. -/
def Debt (c : Dev nD) (n : ℕ) : CellTallies nD τ sig Unit :=
  ∑ x ∈ Finset.univ.filter (fun x : X => n ≤ place x), tallyAt (recvCell x (prx x c)) () (N (cnt x.2))

theorem Debt_step (c : Dev nD) (x : X) :
    Debt c (place x) = Debt c (place x + 1) + tallyAt (recvCell x (prx x c)) () (N (cnt x.2)) := by
  unfold Debt
  have h : Finset.univ.filter (fun y : X => place x ≤ place y) = insert x (Finset.univ.filter fun y : X => place x + 1 ≤ place y) := by
    ext y
    rw [Finset.mem_insert, Finset.mem_filter, Finset.mem_filter]
    constructor
    · rintro ⟨-, h⟩
      rcases Nat.lt_or_eq_of_le h with h | h
      · exact .inr ⟨Finset.mem_univ _, h⟩
      · exact .inl (place_inj h.symm)
    · rintro (rfl | ⟨-, h⟩)
      · exact ⟨Finset.mem_univ _, le_rfl⟩
      · exact ⟨Finset.mem_univ _, by omega⟩
  rw [h, Finset.sum_insert (by simp), add_comm]

theorem Debt_end (c : Dev nD) : Debt c 30 = 0 := by
  unfold Debt
  rw [Finset.sum_eq_zero]
  intro x hx
  have := (Finset.mem_filter.mp hx).2
  simp only [place] at this; omega

theorem Debt_pos {c : Dev nD} {n : ℕ} {g : GSem nD τ sig} {u : Unit} (h : 0 < Debt c n g u) :
    ∃ x : X, n ≤ place x ∧ g = recvCell x (prx x c) := by
  unfold Debt at h
  rw [Finset.sum_apply, Finsupp.finset_sum_apply] at h
  obtain ⟨x, hx, hp⟩ := Finset.exists_ne_zero_of_sum_ne_zero (Nat.ne_of_gt h)
  refine ⟨x, (Finset.mem_filter.mp hx).2, ?_⟩
  rw [tallyAt_apply] at hp
  by_contra hn
  exact hp (if_neg fun h => hn h.1)

/-- What `c` owes at launch: every arrival, and each neighbour's barrier a unit. -/
def O₂ (c : Dev nD) : CellTallies nD τ sig Unit := Debt c 0 + tallyAt (barCell (flip 2 c)) () 1
def O₁ (c : Dev nD) : CellTallies nD τ sig Unit := O₂ c + tallyAt (barCell (flip 1 c)) () 1
def O₀ (c : Dev nD) : CellTallies nD τ sig Unit := O₁ c + tallyAt (barCell (flip 0 c)) () 1

def L (g : GSem nD τ sig) : Finset Unit := if g.1.2 = .tc then {()} else ∅
/-- Barriers at 1, arrivals of exchange `s` at `s + 2`, everything else (staging, departures) at 0. -/
def lv (g : GSem nD τ sig) (_ : Unit) : ℕ := match g.2 with
  | .reg _ => 1
  | .dma q => match kind q.val with | some (true, x) => x.2.val + 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (x : X) (c : Dev nD) : lv (recvCell x c) () = x.2.val + 2 := by dsimp only [lv]; rw [kind_recv]
theorem lv_send (x : X) (c : Dev nD) : lv (sendCell x c) () = 0 := by dsimp only [lv]; rw [kind_send]

theorem O₀_pos {c : Dev nD} {g : GSem nD τ sig} {u : Unit} (h : 0 < O₀ c g u) :
    (∃ x : X, g = recvCell x (prx x c)) ∨ ∃ j, g = barCell (flip j c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨2, h'.1⟩), if_neg (fun h' => hn.2 ⟨1, h'.1⟩), if_neg (fun h' => hn.2 ⟨0, h'.1⟩)] at h
  obtain ⟨x, -, hx⟩ := Debt_pos (Nat.pos_of_ne_zero fun h0 => by rw [h0] at h; exact Nat.lt_irrefl 0 h)
  exact hn.1 ⟨x, hx⟩

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | ⟨j, rfl⟩ <;> exact Finset.mem_singleton_self _)
      (fun p hp => by rw [Finset.mem_singleton.mp hp]; exact le_of_eq hq)
      (fun g u hg => by
        rcases O₀_pos hg with ⟨x, rfl⟩ | ⟨j, rfl⟩
        · rw [lv_recv]; omega
        · dsimp only [lv]; decide)
  · rw [MayWait_zero]; iintro -; iempintro

/-- A wait on a cell below every arrival still owed. -/
theorem mayWait_debt (c : Dev nD) (n : ℕ) (sm : SemLoc sig) (h : ∀ x : X, n ≤ place x → lv ((c : Thread nD τ), sm) () < x.2.val + 2) :
    (levAts L lv : sProp 𝕄) ⊢ MayWait (c : Thread nD τ) sm () (Debt c n) :=
  MayOwe.of_cut (L := L) (lev := lv) (lv ((c : Thread nD τ), sm) ()) (fun p hp => by rw [Finset.mem_singleton.mp hp, L_tc]; exact Finset.mem_singleton_self _)
    (fun g u hg => by obtain ⟨x, -, rfl⟩ := Debt_pos hg; exact Finset.mem_singleton_self _)
    (fun p hp => by rw [Finset.mem_singleton.mp hp])
    (fun g u hg => by obtain ⟨x, hx, rfl⟩ := Debt_pos hg; rw [lv_recv]; exact h x hx)

theorem mayWait_bar (c : Dev nD) : (levAts L lv : sProp 𝕄) ⊢ MayWait (c : Thread nD τ) (.reg barS) () (Debt c 0) :=
  mayWait_debt c 0 _ fun x _ => by show 1 < _; omega
theorem mayWait_send (c : Dev nD) (n : ℕ) (x : X) : (levAts L lv : sProp 𝕄) ⊢ MayWait (c : Thread nD τ) (.dma (sendSem x)) () (Debt c n) :=
  mayWait_debt c n _ fun y _ => by rw [lv_send]; omega
theorem mayWait_recv (c : Dev nD) (n : ℕ) (x : X) (hn : 6 * (x.2.val + 1) ≤ n) :
    (levAts L lv : sProp 𝕄) ⊢ MayWait (c : Thread nD τ) (.dma (recvSem x)) () (Debt c n) :=
  mayWait_debt c n _ fun y hy => by
    rw [lv_recv]
    have : x.2.val + 1 ≤ y.2.val := by
      have h := y.1.isLt
      simp only [place] at hy; omega
    omega

end Cert.KernelIdeal.Hand
-- ==== Proof.Steps.lean ====
/- One lemma per step of the kernel: what it needs of the buffers' rows and what it leaves in them. -/
module

public import proofs.«01_k».proof.Proof.Schedule

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of the kernel on device `c`. -/
abbrev wpc (c : Dev nD) (k : PR F) (Q : PUnit.{1} → sProp 𝕄) : sProp 𝕄 :=
  wp frame (wpE (defs₀ (F := F)) 𝒱₀ (c : Thread nD τ) none) Set.univ k Q

variable (c : Dev nD)

/-! ## Loads and stores of whole rows -/

section Rows
variable {n lo : ℕ} {o : Fin 2 → ℕ} (ho : o = ![lo, 0]) (h : Inb n o) (q : PosShare TreeShare)
include ho

theorem sub_rows : (rR n o h).set ⊆ rows lo n := (rR_set ho h).subset

theorem mem_emb {i : S1536x1536.Idx} (hi : i ∈ rows lo n) : ∃ j, (rR n o h).emb j = i := by
  rw [← rR_set ho h, ← Rect.map_emb_univ] at hi
  obtain ⟨j, -, hj⟩ := Finset.mem_map.mp hi
  exact ⟨j, hj⟩

theorem load_P (Q : PUnit.{1} → sProp 𝕄) {hl : mP.view.LoadsAt (rR n o h).toLoadRect} (f : Vec F S1536x1536 .f32) (k : Vec F (SR n) .f32 → PR F) :
    ptP c (rows lo n) q f ⊢ iprop((ptP c (rows lo n) q f -∗ wpc c (k fun j => f ((rR n o h).emb j)) Q)
      -∗ wpc c (.op (.load mP (rR n o h).toLoadRect hl) k) Q) := by
  have hs : (mP.access (rR n o h)).set ⊆ rows lo n := by rw [View.set_slice_whole]; exact sub_rows ho h
  have hv : (fun j : (SR n).Idx => f ((rR n o h).emb j)) = (mP.access (rR n o h)).read (Elt F) f := rfl
  rw [hv]
  exact wp_load_rect 𝒱₀ (c : Thread nD τ) none Set.univ (m := mP) (r := rR n o h) (S := rows lo n) (f := f) hs

theorem load_Out (Q : PUnit.{1} → sProp 𝕄) {hl : mOut.view.LoadsAt (rR n o h).toLoadRect} (f : Vec F S1536x1536 .f32) (k : Vec F (SR n) .f32 → PR F) :
    ptOut c (rows lo n) q f ⊢ iprop((ptOut c (rows lo n) q f -∗ wpc c (k fun j => f ((rR n o h).emb j)) Q)
      -∗ wpc c (.op (.load mOut (rR n o h).toLoadRect hl) k) Q) := by
  have hs : (mOut.access (rR n o h)).set ⊆ rows lo n := by rw [View.set_slice_whole]; exact sub_rows ho h
  have hv : (fun j : (SR n).Idx => f ((rR n o h).emb j)) = (mOut.access (rR n o h)).read (Elt F) f := rfl
  rw [hv]
  exact wp_load_rect 𝒱₀ (c : Thread nD τ) none Set.univ (m := mOut) (r := rR n o h) (S := rows lo n) (f := f) hs

theorem load_Stage (Q : PUnit.{1} → sProp 𝕄) {hl : mStage.view.LoadsAt (rR n o h).toLoadRect} (f : Vec F S1536x1536 .bf16) (k : Vec F (SR n) .bf16 → PR F) :
    ptStage c (rows lo n) q f ⊢ iprop((ptStage c (rows lo n) q f -∗ wpc c (k fun j => f ((rR n o h).emb j)) Q)
      -∗ wpc c (.op (.load mStage (rR n o h).toLoadRect hl) k) Q) := by
  have hs : (mStage.access (rR n o h)).set ⊆ rows lo n := by rw [View.set_slice_whole]; exact sub_rows ho h
  have hv : (fun j : (SR n).Idx => f ((rR n o h).emb j)) = (mStage.access (rR n o h)).read (Elt F) f := rfl
  rw [hv]
  exact wp_load_rect 𝒱₀ (c : Thread nD τ) none Set.univ (m := mStage) (r := rR n o h) (S := rows lo n) (f := f) hs

theorem load_Scr (Q : PUnit.{1} → sProp 𝕄) {hl : mScr.view.LoadsAt (rR n o h).toLoadRect} (f : Vec F S1536x1536 .bf16) (k : Vec F (SR n) .bf16 → PR F) :
    ptScr c (rows lo n) q f ⊢ iprop((ptScr c (rows lo n) q f -∗ wpc c (k fun j => f ((rR n o h).emb j)) Q)
      -∗ wpc c (.op (.load mScr (rR n o h).toLoadRect hl) k) Q) := by
  have hs : (mScr.access (rR n o h)).set ⊆ rows lo n := by rw [View.set_slice_whole]; exact sub_rows ho h
  have hv : (fun j : (SR n).Idx => f ((rR n o h).emb j)) = (mScr.access (rR n o h)).read (Elt F) f := rfl
  rw [hv]
  exact wp_load_rect 𝒱₀ (c : Thread nD τ) none Set.univ (m := mScr) (r := rR n o h) (S := rows lo n) (f := f) hs

theorem load_Ag (Q : PUnit.{1} → sProp 𝕄) {hl : mAg.view.LoadsAt (rR n o h).toLoadRect} (f : Vec F S1536x1536 .bf16) (k : Vec F (SR n) .bf16 → PR F) :
    ptAg c (rows lo n) q f ⊢ iprop((ptAg c (rows lo n) q f -∗ wpc c (k fun j => f ((rR n o h).emb j)) Q)
      -∗ wpc c (.op (.load mAg (rR n o h).toLoadRect hl) k) Q) := by
  have hs : (mAg.access (rR n o h)).set ⊆ rows lo n := by rw [View.set_slice_whole]; exact sub_rows ho h
  have hv : (fun j : (SR n).Idx => f ((rR n o h).emb j)) = (mAg.access (rR n o h)).read (Elt F) f := rfl
  rw [hv]
  exact wp_load_rect 𝒱₀ (c : Thread nD τ) none Set.univ (m := mAg) (r := rR n o h) (S := rows lo n) (f := f) hs

theorem store_P (Q : PUnit.{1} → sProp 𝕄) {w : Vec F (SR n) .f32} {hx : (mP.access (rR n o h)).Stores Finset.univ}
    {hm : (Finset.univ : Finset (SR n).Idx) = Finset.univ ∨ ∀ a, (rR n o h).stride a = 1} (f H : Vec F S1536x1536 .f32)
    (hw : ∀ j, w j = H ((rR n o h).emb j)) (k : PUnit → PR F) :
    ptP c (rows lo n) fullShare f ⊢ iprop((ptP c (rows lo n) fullShare H -∗ wpc c (k ⟨⟩) Q)
      -∗ wpc c (.op (.store mP (rR n o h) w Finset.univ hx hm) k) Q) := by
  have e : ptP c (rows lo n) fullShare ((mP.access (rR n o h)).write (Elt F) f w Finset.univ) = ptP c (rows lo n) fullShare H :=
    pointsTo_congr fun i hi => by
      obtain ⟨j, rfl⟩ := mem_emb ho h hi
      exact (View.write_emb_of_mem (v := mP.access (rR n o h)) (Val := Elt F) f w (Finset.mem_univ j)).trans (hw j)
  have hs : (mP.access (rR n o h)).set ⊆ rows lo n := by rw [View.set_slice_whole]; exact sub_rows ho h
  rw [← e]
  exact wp_store 𝒱₀ (c : Thread nD τ) none Set.univ (m := mP) (r := rR n o h) (S := rows lo n) (f := f) hs

theorem store_Out (Q : PUnit.{1} → sProp 𝕄) {w : Vec F (SR n) .f32} {hx : (mOut.access (rR n o h)).Stores Finset.univ}
    {hm : (Finset.univ : Finset (SR n).Idx) = Finset.univ ∨ ∀ a, (rR n o h).stride a = 1} (f H : Vec F S1536x1536 .f32)
    (hw : ∀ j, w j = H ((rR n o h).emb j)) (k : PUnit → PR F) :
    ptOut c (rows lo n) fullShare f ⊢ iprop((ptOut c (rows lo n) fullShare H -∗ wpc c (k ⟨⟩) Q)
      -∗ wpc c (.op (.store mOut (rR n o h) w Finset.univ hx hm) k) Q) := by
  have e : ptOut c (rows lo n) fullShare ((mOut.access (rR n o h)).write (Elt F) f w Finset.univ) = ptOut c (rows lo n) fullShare H :=
    pointsTo_congr fun i hi => by
      obtain ⟨j, rfl⟩ := mem_emb ho h hi
      exact (View.write_emb_of_mem (v := mOut.access (rR n o h)) (Val := Elt F) f w (Finset.mem_univ j)).trans (hw j)
  have hs : (mOut.access (rR n o h)).set ⊆ rows lo n := by rw [View.set_slice_whole]; exact sub_rows ho h
  rw [← e]
  exact wp_store 𝒱₀ (c : Thread nD τ) none Set.univ (m := mOut) (r := rR n o h) (S := rows lo n) (f := f) hs

theorem store_Stage (Q : PUnit.{1} → sProp 𝕄) {w : Vec F (SR n) .bf16} {hx : (mStage.access (rR n o h)).Stores Finset.univ}
    {hm : (Finset.univ : Finset (SR n).Idx) = Finset.univ ∨ ∀ a, (rR n o h).stride a = 1} (f H : Vec F S1536x1536 .bf16)
    (hw : ∀ j, w j = H ((rR n o h).emb j)) (k : PUnit → PR F) :
    ptStage c (rows lo n) fullShare f ⊢ iprop((ptStage c (rows lo n) fullShare H -∗ wpc c (k ⟨⟩) Q)
      -∗ wpc c (.op (.store mStage (rR n o h) w Finset.univ hx hm) k) Q) := by
  have e : ptStage c (rows lo n) fullShare ((mStage.access (rR n o h)).write (Elt F) f w Finset.univ) = ptStage c (rows lo n) fullShare H :=
    pointsTo_congr fun i hi => by
      obtain ⟨j, rfl⟩ := mem_emb ho h hi
      exact (View.write_emb_of_mem (v := mStage.access (rR n o h)) (Val := Elt F) f w (Finset.mem_univ j)).trans (hw j)
  have hs : (mStage.access (rR n o h)).set ⊆ rows lo n := by rw [View.set_slice_whole]; exact sub_rows ho h
  rw [← e]
  exact wp_store 𝒱₀ (c : Thread nD τ) none Set.univ (m := mStage) (r := rR n o h) (S := rows lo n) (f := f) hs

theorem store_Ag (Q : PUnit.{1} → sProp 𝕄) {w : Vec F (SR n) .bf16} {hx : (mAg.access (rR n o h)).Stores Finset.univ}
    {hm : (Finset.univ : Finset (SR n).Idx) = Finset.univ ∨ ∀ a, (rR n o h).stride a = 1} (f H : Vec F S1536x1536 .bf16)
    (hw : ∀ j, w j = H ((rR n o h).emb j)) (k : PUnit → PR F) :
    ptAg c (rows lo n) fullShare f ⊢ iprop((ptAg c (rows lo n) fullShare H -∗ wpc c (k ⟨⟩) Q)
      -∗ wpc c (.op (.store mAg (rR n o h) w Finset.univ hx hm) k) Q) := by
  have e : ptAg c (rows lo n) fullShare ((mAg.access (rR n o h)).write (Elt F) f w Finset.univ) = ptAg c (rows lo n) fullShare H :=
    pointsTo_congr fun i hi => by
      obtain ⟨j, rfl⟩ := mem_emb ho h hi
      exact (View.write_emb_of_mem (v := mAg.access (rR n o h)) (Val := Elt F) f w (Finset.mem_univ j)).trans (hw j)
  have hs : (mAg.access (rR n o h)).set ⊆ rows lo n := by rw [View.set_slice_whole]; exact sub_rows ho h
  rw [← e]
  exact wp_store 𝒱₀ (c : Thread nD τ) none Set.univ (m := mAg) (r := rR n o h) (S := rows lo n) (f := f) hs

end Rows

theorem hz : (![0, 0] : Fin 2 → Nat) = fun _ => 0 := funext fun a => by fin_cases a <;> rfl

/-! ## The steps of the computation -/

variable (a : Dev nD → Vec F S1536x768 .f32) (b : Dev nD → Vec F S768x1536 .f32)

/-- The staged factors and the product's narrow copies of them. -/
def ptX (c : Dev nD) (f : Vec F S1536x768 .f32) : sProp 𝕄 := ((c : Thread nD τ).loc cc0_stg0_0) ↦{fullShare} f
def ptY (c : Dev nD) (f : Vec F S768x1536 .f32) : sProp 𝕄 := ((c : Thread nD τ).loc cc0_stg1_0) ↦{fullShare} f

/-- Rounding the factors. -/
theorem wp_casts (Q : PUnit.{1} → sProp 𝕄) (f f' : _) (k : PR F) :
    iprop(ptX c (a c) ∗ ptY c (b c) ∗ ptA c fullShare f ∗ ptB c fullShare f')
      ⊢ iprop(((ptX c (a c) ∗ ptY c (b c) ∗ ptA c fullShare (k0_pay2 (a c)) ∗ ptB c fullShare (k0_pay3 (b c))) -∗ wpc c k Q) -∗ wpc c (casts k) Q) := by
  have hr : mA.view.readAt (Elt F) (Rect.unit (s := S1536x768) ![0, 0] S1536x768.size inb_S1536x768_S1536x768_0_0).toLoadRect (a c) = a c :=
    Memref.readAt_unit_zero (Elt F) cc0_stg0_0 hz _ (a c)
  have hr' : mB.view.readAt (Elt F) (Rect.unit (s := S768x1536) ![0, 0] S768x1536.size inb_S768x1536_S768x1536_0_0).toLoadRect (b c) = b c :=
    Memref.readAt_unit_zero (Elt F) cc0_stg1_0 hz _ (b c)
  have hw : (mAbf.access (Rect.unit (s := S1536x768) ![0, 0] S1536x768.size inb_S1536x768_S1536x768_0_0)).write (Elt F) f (k0_pay2 (a c)) Finset.univ = k0_pay2 (a c) :=
    Memref.write_access_unit_zero_univ (Elt F) cc0_scratch0 hz _ f (k0_pay2 (a c))
  have hw' : (mBbf.access (Rect.unit (s := S768x1536) ![0, 0] S768x1536.size inb_S768x1536_S768x1536_0_0)).write (Elt F) f' (k0_pay3 (b c)) Finset.univ = k0_pay3 (b c) :=
    Memref.write_access_unit_zero_univ (Elt F) cc0_scratch1 hz _ f' (k0_pay3 (b c))
  unfold casts ptX ptY ptA ptB
  iintro ⟨Hx, Hy, Ha, Hb⟩ Hk
  iapply (wp_load 𝒱₀ (c : Thread nD τ) none Set.univ (m := mA) (Finset.subset_univ _)) $$ Hx; iintro Hx
  iapply (wp_load 𝒱₀ (c : Thread nD τ) none Set.univ (m := mAbf) (Finset.subset_univ _)) $$ Ha; iintro Ha
  iapply (wp_store 𝒱₀ (c : Thread nD τ) none Set.univ (m := mAbf) (r := Rect.unit (s := S1536x768) ![0, 0] S1536x768.size inb_S1536x768_S1536x768_0_0) (Mk := Finset.univ) (Finset.subset_univ _)) $$ Ha; iintro Ha
  iapply (wp_load 𝒱₀ (c : Thread nD τ) none Set.univ (m := mB) (Finset.subset_univ _)) $$ Hy; iintro Hy
  iapply (wp_load 𝒱₀ (c : Thread nD τ) none Set.univ (m := mBbf) (Finset.subset_univ _)) $$ Hb; iintro Hb
  iapply (wp_store 𝒱₀ (c : Thread nD τ) none Set.univ (m := mBbf) (r := Rect.unit (s := S768x1536) ![0, 0] S768x1536.size inb_S768x1536_S768x1536_0_0) (Mk := Finset.univ) (Finset.subset_univ _)) $$ Hb; iintro Hb
  rw [hr, hr', hw, hw']
  iapply Hk
  isplitl [Hx]; · iexact Hx
  isplitl [Hy]; · iexact Hy
  isplitl [Ha]; · iexact Ha
  iexact Hb

/-- One block product. -/
theorem wp_mm (Q : PUnit.{1} → sProp 𝕄) {oA o : Fin 2 → ℕ} {lo : ℕ} (hoA : oA = ![lo, 0]) (ho : o = ![lo, 0]) (hlo : lo % 128 = 0)
    (hA : ∀ a, oA a + S128x768.size a ≤ S1536x768.size a) (h : Inb 128 o) (f : Vec F S1536x1536 .f32) (k : PR F) :
    iprop(ptA c fullShare (k0_pay2 (a c)) ∗ ptB c fullShare (k0_pay3 (b c)) ∗ ptP c (rows lo 128) fullShare f)
      ⊢ iprop(((ptA c fullShare (k0_pay2 (a c)) ∗ ptB c fullShare (k0_pay3 (b c)) ∗ ptP c (rows lo 128) fullShare (sm a b 0 c)) -∗ wpc c k Q)
          -∗ wpc c (mm oA hA o h k) Q) := by
  have hv : (mAbf.view.readAt (Elt F) (Rect.unit (s := S1536x768) oA S128x768.size hA).toLoadRect (k0_pay2 (a c)))
    = fun j => k0_pay2 (a c) ((Rect.unit (s := S1536x768) oA S128x768.size hA).emb j) := rfl
  have hw : (mBbf.view.readAt (Elt F) (Rect.unit (s := S768x1536) ![0, 0] S768x1536.size inb_S768x1536_S768x1536_0_0).toLoadRect (k0_pay3 (b c)))
    = k0_pay3 (b c) := Memref.readAt_unit_zero (Elt F) cc0_scratch1 hz _ (k0_pay3 (b c))
  unfold mm
  iintro ⟨Ha, Hb, Hp⟩ Hk
  unfold ptA ptB
  iapply (wp_load 𝒱₀ (c : Thread nD τ) none Set.univ (m := mAbf) (Finset.subset_univ _)) $$ Ha; iintro Ha
  iapply (wp_load 𝒱₀ (c : Thread nD τ) none Set.univ (m := mBbf) (Finset.subset_univ _)) $$ Hb; iintro Hb
  rw [hw, hv]
  iapply (load_P c ho h fullShare Q f) $$ Hp; iintro Hp
  iapply (store_P c ho h Q f (sm a b 0 c) (mm_at a b c hoA ho hlo hA h)) $$ Hp; iintro Hp
  iapply Hk
  isplitl [Ha]; · iexact Ha
  isplitl [Hb]; · iexact Hb
  iexact Hp

/-- Rounding rows of the sum into the outgoing buffer. -/
theorem wp_copyOut (Q : PUnit.{1} → sProp 𝕄) (p : Fin 6) {s : Fin 5} (hs : s.val < 3) {n : ℕ} {o o' : Fin 2 → ℕ} (hn : 0 < (SR n).numel)
    (ho : o = ![srcR p s c, 0]) (ho' : o' = ![areaR p s c, 0]) (h : Inb n o) (h' : Inb n o') (hp : (rR n o' h').PackedRows (EltTy.packing .bf16)) (f) (k : PR F) :
    iprop(ptP c (rows (srcR p s c) n) fullShare (sm a b s.val c) ∗ ptStage c (rows (areaR p s c) n) fullShare f)
      ⊢ iprop(((ptP c (rows (srcR p s c) n) fullShare (sm a b s.val c) ∗ ptStage c (rows (areaR p s c) n) fullShare (sent a b p s c)) -∗ wpc c k Q)
          -∗ wpc c (copyOut n hn o h o' h' hp k) Q) := by
  unfold copyOut
  iintro ⟨Hp, Hs⟩ Hk
  iapply (load_P c ho h fullShare Q (sm a b s.val c)) $$ Hp; iintro Hp
  iapply (load_Stage c ho' h' fullShare Q f) $$ Hs; iintro Hs
  iapply (store_Stage c ho' h' Q f (sent a b p s c) (copy_at a b p hs c ho ho' h h')) $$ Hs; iintro Hs
  iapply Hk
  isplitl [Hp]; · iexact Hp
  iexact Hs

/-- Adding the rows that arrived. -/
theorem wp_addIn (Q : PUnit.{1} → sProp 𝕄) (p : Fin 6) {s : Fin 5} (hs : s.val < 3) {o o' : Fin 2 → ℕ} (hn : 0 < (SR (cnt s)).numel)
    (ho : o = ![addR p s c, 0]) (ho' : o' = ![areaR p s c, 0]) (h : Inb (cnt s) o) (h' : Inb (cnt s) o') (k : PR F) :
    iprop(ptP c (rows (addR p s c) (cnt s)) fullShare (sm a b s.val c) ∗ ptScr c (rows (areaR p s c) (cnt s)) fullShare (sent a b p s (peer p s c)))
      ⊢ iprop(((ptP c (rows (addR p s c) (cnt s)) fullShare (sm a b (s.val + 1) c) ∗ ptScr c (rows (areaR p s c) (cnt s)) fullShare (sent a b p s (peer p s c))) -∗ wpc c k Q)
          -∗ wpc c (addIn (cnt s) hn o h o' h' k) Q) := by
  unfold addIn
  iintro ⟨Hp, Hs⟩ Hk
  iapply (load_P c ho h fullShare Q (sm a b s.val c)) $$ Hp; iintro Hp
  iapply (load_Scr c ho' h' fullShare Q (sent a b p s (peer p s c))) $$ Hs; iintro Hs
  iapply (load_P c ho h fullShare Q (sm a b s.val c)) $$ Hp; iintro Hp
  iapply (store_P c ho h Q (sm a b s.val c) (sm a b (s.val + 1) c) (add_at a b p hs c ho ho' h h')) $$ Hp; iintro Hp
  iapply Hk
  isplitl [Hp]; · iexact Hp
  iexact Hs

/-- Activating the owned rows. -/
theorem wp_actOwn (Q : PUnit.{1} → sProp 𝕄) (p : Fin 6) {o : Fin 2 → ℕ} (ho : o = ![ownR p c, 0]) (h : Inb 64 o) (hp : (rR 64 o h).PackedRows (EltTy.packing .bf16)) (f g) (k : PR F) :
    iprop(ptP c (rows (ownR p c) 64) fullShare (sm a b 3 c) ∗ ptOut c (rows (ownR p c) 64) fullShare f ∗ ptAg c (rows (ownR p c) 64) fullShare g)
      ⊢ iprop(((ptP c (rows (ownR p c) 64) fullShare (sm a b 3 c) ∗ ptOut c (rows (ownR p c) 64) fullShare (res a b c) ∗ ptAg c (rows (ownR p c) 64) fullShare (gat a b c)) -∗ wpc c k Q)
          -∗ wpc c (actOwn o h hp k) Q) := by
  unfold actOwn
  iintro ⟨Hp, Ho, Hg⟩ Hk
  iapply (load_P c ho h fullShare Q (sm a b 3 c)) $$ Hp; iintro Hp
  iapply (load_Out c ho h fullShare Q f) $$ Ho; iintro Ho
  iapply (store_Out c ho h Q f (res a b c) (act_at a b p c ho h)) $$ Ho; iintro Ho
  iapply (load_Ag c ho h fullShare Q g) $$ Hg; iintro Hg
  iapply (store_Ag c ho h Q g (gat a b c) (actTr_at a b p c ho h)) $$ Hg; iintro Hg
  iapply Hk
  isplitl [Hp]; · iexact Hp
  isplitl [Ho]; · iexact Ho
  iexact Hg

/-- Widening rows that came back, at any share of them. -/
theorem wp_copyBack (Q : PUnit.{1} → sProp 𝕄) {n lo : ℕ} (hnum : 0 < (SR n).numel) {o : Fin 2 → ℕ} (ho : o = ![lo, 0]) (hn : ∀ i ∈ rows lo n, owner c i ≠ c) (h : Inb n o)
    (q : PosShare TreeShare) (f) (k : PR F) :
    iprop(ptAg c (rows lo n) q (gat a b c) ∗ ptOut c (rows lo n) fullShare f)
      ⊢ iprop(((ptAg c (rows lo n) q (gat a b c) ∗ ptOut c (rows lo n) fullShare (res a b c)) -∗ wpc c k Q) -∗ wpc c (copyBack n hnum o h k) Q) := by
  unfold copyBack
  iintro ⟨Hg, Ho⟩ Hk
  iapply (load_Ag c ho h q Q (gat a b c)) $$ Hg; iintro Hg
  iapply (load_Out c ho h fullShare Q f) $$ Ho; iintro Ho
  iapply (store_Out c ho h Q f (res a b c) (back_at a b c ho hn h)) $$ Ho; iintro Ho
  iapply Hk
  isplitl [Hg]; · iexact Hg
  iexact Ho

end Cert.KernelIdeal.Hand
-- ==== Proof.Exchange.lean ====
/- One exchange with a neighbour: starting a copy, and waiting for it at both ends. -/
module

public import proofs.«01_k».proof.Proof.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What every device knows throughout -/

/-- Each cell's invariant, at the name `K` gives it, and that the cell is at its first round. -/
def recs (K : Dev nD × CI → ℕ) : sProp 𝕄 :=
  bigSep Finset.univ fun ck : Dev nD × CI => iprop(cellInv ER (Rd a b) (K ck) (kcell ck) ∗ reached ER (kcell ck) 0)

instance recs_persistent (K : Dev nD × CI → ℕ) : BI.Persistent (recs (F := F) a b K) := by unfold recs; infer_instance

/-- The cells and the levels. -/
def ctx (K : Dev nD × CI → ℕ) : sProp 𝕄 := iprop(recs a b K ∗ levAts L lv)

instance ctx_persistent (K : Dev nD × CI → ℕ) : BI.Persistent (ctx (F := F) a b K) := by unfold ctx; infer_instance

theorem recs_at (K : Dev nD × CI → ℕ) (c : Dev nD) (i : CI) :
    recs (F := F) a b K ⊢ iprop(cellInv ER (Rd a b) (K (c, i)) (kcell (c, i)) ∗ reached ER (kcell (c, i)) 0) :=
  bigSep_elim (Φ := fun ck : Dev nD × CI => iprop(cellInv ER (Rd a b) (K ck) (kcell ck) ∗ reached ER (kcell ck) 0)) (Finset.mem_univ (c, i))

/-- What `c` still owes after its first `n` exchanges. -/
def Ow (c : Dev nD) (n : ℕ) : sProp 𝕄 := iprop(∃ W, owes (c : Thread nD τ) (Debt c n) W)

variable (K : Dev nD × CI → ℕ) (c : Dev nD)

/-! ## Waiting -/

theorem wp_awaitSend (x : X) (Q : PUnit.{1} → sProp 𝕄) (m : Memref sig .tc .vmem S1536x1536 .bf16) (hm : m.IsWhole) (m' : Memref sig .tc .vmem S1536x1536 .bf16) (hm' : m'.IsWhole)
    (o : Fin 2 → ℕ) (h : Inb (cnt x.2) o) (hw : (rR (cnt x.2) o h).WholeWords (EltTy.packing .bf16)) (k : PR F) (n : ℕ)
    (hc : (sl m' (cnt x.2) o h).view.dmaCredit = N (cnt x.2)) :
    iprop(ctx a b K ∗ cred (tallyAt (sendCell x c) () (N (cnt x.2))) ∗ Ow c n ∗ atPos ER (sendCell x c) 0 ∅ 0)
      ⊢ iprop(((Ow c n ∗ semVal (sendCell x c) 0 ∗ sendPay a b x c) -∗ wpc c k Q) -∗ wpc c (await (cnt x.2) m hm m' hm' o h hw (sendSem x) k) Q) := by
  unfold await ctx Ow
  iintro ⟨⟨#Hr, #Hl⟩, Hc, ⟨%W, HO⟩, Hat⟩ Hk
  ihave Hi := (recs_at a b K c (some (false, x))) $$ Hr
  icases Hi with ⟨#HI, -⟩
  iapply (Rounds.wp_wait_rest_token 𝒱₀ ER (Rd a b) (c : Thread nD τ) none (κ := K (c, some (false, x)))
      (wpE_waitDma2_eq 𝒱₀ (c : Thread nD τ) none Set.univ) (Set.mem_univ _) () (O := Debt c n) (W := W) (R := 0) (m := 0) (T := ∅)
      (by rw [Nat.zero_add, expect_send]; exact hc)) $$ [Hc HO Hat]
  · isplitr; · iexact HI
    isplitl [Hc]; · rw [hc]; iexact Hc
    isplitl [HO]; · iexact HO
    isplitr; · iapply (mayWait_send c n x); iexact Hl
    iexact Hat
  iintro ⟨HO, Hat, -, Hpay⟩
  ihave Hp := (Entails.of_eq (rest_send a b c x)) $$ Hpay
  imod (Rounds.cell_close ER (Rd a b) (Set.mem_univ (K (c, some (false, x)))) (fun h => h) (R := 0 + 1) (duties_later a b (sendCell x c))) $$ [Hat] with Hz
  · isplitr; · iexact HI
    iexact Hat
  iapply Hk
  isplitl [HO]; · iexists _; iexact HO
  isplitl [Hz]; · iexact Hz
  iexact Hp

theorem wp_awaitRecv (x : X) (Q : PUnit.{1} → sProp 𝕄) (m : Memref sig .tc .vmem S1536x1536 .bf16) (hm : m.IsWhole) (m' : Memref sig .tc .vmem S1536x1536 .bf16) (hm' : m'.IsWhole)
    (o : Fin 2 → ℕ) (h : Inb (cnt x.2) o) (hw : (rR (cnt x.2) o h).WholeWords (EltTy.packing .bf16)) (k : PR F) (n : ℕ) (hn : 6 * (x.2.val + 1) ≤ n)
    (hc : (sl m' (cnt x.2) o h).view.dmaCredit = N (cnt x.2)) :
    iprop(ctx a b K ∗ cred (tallyAt (recvCell x c) () (N (cnt x.2))) ∗ Ow c n ∗ atPos ER (recvCell x c) 0 ∅ 0)
      ⊢ iprop(((Ow c n ∗ semVal (recvCell x c) 0 ∗ recvPay a b x c) -∗ wpc c k Q) -∗ wpc c (await (cnt x.2) m hm m' hm' o h hw (recvSem x) k) Q) := by
  unfold await ctx Ow
  iintro ⟨⟨#Hr, #Hl⟩, Hc, ⟨%W, HO⟩, Hat⟩ Hk
  ihave Hi := (recs_at a b K c (some (true, x))) $$ Hr
  icases Hi with ⟨#HI, -⟩
  iapply (Rounds.wp_wait_rest_token 𝒱₀ ER (Rd a b) (c : Thread nD τ) none (κ := K (c, some (true, x)))
      (wpE_waitDma2_eq 𝒱₀ (c : Thread nD τ) none Set.univ) (Set.mem_univ _) () (O := Debt c n) (W := W) (R := 0) (m := 0) (T := ∅)
      (by rw [Nat.zero_add, expect_recv]; exact hc)) $$ [Hc HO Hat]
  · isplitr; · iexact HI
    isplitl [Hc]; · rw [hc]; iexact Hc
    isplitl [HO]; · iexact HO
    isplitr; · iapply (mayWait_recv c n x hn); iexact Hl
    iexact Hat
  iintro ⟨HO, Hat, -, Hpay⟩
  ihave Hp := (Entails.of_eq (rest_recv a b c x)) $$ Hpay
  imod (Rounds.cell_close ER (Rd a b) (Set.mem_univ (K (c, some (true, x)))) (fun h => h) (R := 0 + 1) (duties_later a b (recvCell x c))) $$ [Hat] with Hz
  · isplitr; · iexact HI
    iexact Hat
  iapply Hk
  isplitl [HO]; · iexists _; iexact HO
  isplitl [Hz]; · iexact Hz
  iexact Hp

/-! ## Sending -/

/-- What a copy of whole rows leaves in them. -/
theorem copied {n lo : ℕ} {o : Fin 2 → ℕ} (ho : o = ![lo, 0]) (h : Inb n o) (f f' g : Vec F S1536x1536 .bf16) (hg : ∀ i ∈ rows lo n, f' i = g i)
    (w : (SR n).Idx → Elt F .bf16) (hw : ∀ j, w j = f' ((rR n o h).emb j)) (v : S1536x1536.Idx → Elt F .bf16)
    (hv : ∀ j, v ((rR n o h).emb j) = w j) : ∀ i ∈ rows lo n, v i = g i := fun i hi => by
  obtain ⟨j, rfl⟩ := mem_emb ho h hi
  rw [hv, hw, hg _ hi]

theorem wp_sendOut (x : X) (hs : x.2.val < 3) (Q : PUnit.{1} → sProp 𝕄) {o : Fin 2 → ℕ} (ho : o = ![areaR x.1 x.2 c, 0]) (h : Inb (cnt x.2) o)
    (hw : (rR (cnt x.2) o h).WholeWords (EltTy.packing .bf16)) (d : Dev nD) (hd : d = prx x c) (k : PR F) :
    iprop(ctx a b K ∗ ptStage c (rows (areaR x.1 x.2 c) (cnt x.2)) fullShare (sent a b x.1 x.2 c) ∗ landAny (F := F) x c ∗ Ow c (place x)
        ∗ dutyTok ER (sendCell x c) 0 0 ∗ dutyTok ER (recvCell x (prx x c)) 0 0)
      ⊢ iprop(((cred (tallyAt (sendCell x c) () (N (cnt x.2))) ∗ Ow c (place x + 1)) -∗ wpc c k Q)
          -∗ wpc c (send (cnt x.2) mStage isStage mScr isScr o h hw d (sendSem x) (recvSem x) k) Q) := by
  subst hd
  have hsrc : (sl mStage (cnt x.2) o h).view.set = rows (areaR x.1 x.2 c) (cnt x.2) :=
    (View.set_slice_whole _ _).trans (rR_set ho h)
  have hdst : (sl mScr (cnt x.2) o h).view.set = rows (areaR x.1 x.2 c) (cnt x.2) :=
    (View.set_slice_whole _ _).trans (rR_set ho h)
  unfold send ctx Ow landAny
  iintro ⟨⟨#Hr, #Hl⟩, Hs, ⟨%fd, Hd⟩, ⟨%W, HO⟩, Ht, Ht'⟩ Hk
  ihave Hi := (recs_at a b K c (some (false, x))) $$ Hr
  icases Hi with ⟨#HI, #HR⟩
  ihave Hi' := (recs_at a b K (prx x c) (some (true, x))) $$ Hr
  icases Hi' with ⟨#HI', #HR'⟩
  iapply (Rounds.wp_send_pointsTo 𝒱₀ ER (Rd a b) (c : Thread nD τ) none (c' := (prx x c : Thread nD τ)) (src := sl mStage (cnt x.2) o h) (dst := sl mScr (cnt x.2) o h)
      (sS := .dma (sendSem x)) (sem := .dma (recvSem x)) (q := fullShare) (fs := sent a b x.1 x.2 c)
      (κ₁ := K (c, some (false, x))) (κ₂ := K (prx x c, some (true, x)))
      (r₁ := 0) (r₂ := 0) (d₁ := 0) (d₂ := 0) (fd := fd)
      (by rw [duties_send]; exact Finset.mem_singleton_self _) (by rw [duties_recv]; exact Finset.mem_singleton_self _)
      () () (N (cnt x.2)) rfl (amount_send a b c x 0) (amount_recv a b (prx x c) x 0) (Debt c (place x + 1)) (Debt_step c x) (W := W)
      (by
        rw [payload_send, hsrc]; unfold sendPay ptSrc ptStage shr
        rw [if_pos hs, if_pos (by omega)])
      (by
        rw [payload_recv, hdst]; unfold recvPay ptDst ptScr
        rw [if_pos hs, prx_prx]
        exact Entails.of_eq (pointsTo_congr (copied ho h fd _ _ (fun _ _ => rfl) _ (fun _ => rfl) _
          (fun j => View.write_emb_of_mem (v := (sl mScr (cnt x.2) o h).view) (Val := Elt F) fd _ (Finset.mem_univ j))))))
    $$ [Hs Hd HO Ht Ht']
  · isplitr; · iexact HI
    isplitr; · iexact HI'
    isplitl [Hs]; · rw [hsrc]; unfold ptStage; iexact Hs
    isplitl [Hd]
    · rw [hdst]; ihave Hd := (Entails.of_eq (show ptDst (F := F) (prx x c) (rows (areaR x.1 x.2 c) (cnt x.2)) fullShare x.2 fd = ptScr (prx x c) (rows (areaR x.1 x.2 c) (cnt x.2)) fullShare fd from if_pos hs)) $$ Hd
      unfold ptScr; iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists _; iexact HO

theorem wp_sendBack (x : X) (hs : ¬ x.2.val < 3) (Q : PUnit.{1} → sProp 𝕄) {o : Fin 2 → ℕ} (ho : o = ![areaR x.1 x.2 c, 0]) (h : Inb (cnt x.2) o)
    (hw : (rR (cnt x.2) o h).WholeWords (EltTy.packing .bf16)) (d : Dev nD) (hd : d = prx x c) (k : PR F) :
    iprop(ctx a b K ∗ ptAg c (rows (areaR x.1 x.2 c) (cnt x.2)) (shr x.2) (sent a b x.1 x.2 c) ∗ landAny (F := F) x c ∗ Ow c (place x)
        ∗ dutyTok ER (sendCell x c) 0 0 ∗ dutyTok ER (recvCell x (prx x c)) 0 0)
      ⊢ iprop(((cred (tallyAt (sendCell x c) () (N (cnt x.2))) ∗ Ow c (place x + 1)) -∗ wpc c k Q)
          -∗ wpc c (send (cnt x.2) mAg isAg mAg isAg o h hw d (sendSem x) (recvSem x) k) Q) := by
  subst hd
  have hset : (sl mAg (cnt x.2) o h).view.set = rows (areaR x.1 x.2 c) (cnt x.2) :=
    (View.set_slice_whole _ _).trans (rR_set ho h)
  unfold send ctx Ow landAny
  iintro ⟨⟨#Hr, #Hl⟩, Hs, ⟨%fd, Hd⟩, ⟨%W, HO⟩, Ht, Ht'⟩ Hk
  ihave Hi := (recs_at a b K c (some (false, x))) $$ Hr
  icases Hi with ⟨#HI, #HR⟩
  ihave Hi' := (recs_at a b K (prx x c) (some (true, x))) $$ Hr
  icases Hi' with ⟨#HI', #HR'⟩
  iapply (Rounds.wp_send_pointsTo 𝒱₀ ER (Rd a b) (c : Thread nD τ) none (c' := (prx x c : Thread nD τ)) (src := sl mAg (cnt x.2) o h) (dst := sl mAg (cnt x.2) o h)
      (sS := .dma (sendSem x)) (sem := .dma (recvSem x)) (q := shr x.2) (fs := sent a b x.1 x.2 c)
      (κ₁ := K (c, some (false, x))) (κ₂ := K (prx x c, some (true, x)))
      (r₁ := 0) (r₂ := 0) (d₁ := 0) (d₂ := 0) (fd := fd)
      (by rw [duties_send]; exact Finset.mem_singleton_self _) (by rw [duties_recv]; exact Finset.mem_singleton_self _)
      () () (N (cnt x.2)) rfl (amount_send a b c x 0) (amount_recv a b (prx x c) x 0) (Debt c (place x + 1)) (Debt_step c x) (W := W)
      (by
        rw [payload_send, hset]; unfold sendPay ptSrc ptAg
        rw [if_neg hs])
      (by
        rw [payload_recv, hset]; unfold recvPay ptDst ptAg
        rw [if_neg hs, prx_prx]
        exact Entails.of_eq (pointsTo_congr (copied ho h fd _ _ (fun _ _ => rfl) _ (fun _ => rfl) _
          (fun j => View.write_emb_of_mem (v := (sl mAg (cnt x.2) o h).view) (Val := Elt F) fd _ (Finset.mem_univ j))))))
    $$ [Hs Hd HO Ht Ht']
  · isplitr; · iexact HI
    isplitr; · iexact HI'
    isplitl [Hs]; · rw [hset]; unfold ptAg; iexact Hs
    isplitl [Hd]
    · rw [hset]; ihave Hd := (Entails.of_eq (show ptDst (F := F) (prx x c) (rows (areaR x.1 x.2 c) (cnt x.2)) fullShare x.2 fd = ptAg (prx x c) (rows (areaR x.1 x.2 c) (cnt x.2)) fullShare fd from if_neg hs)) $$ Hd
      unfold ptAg; iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists _; iexact HO

end Cert.KernelIdeal.Hand
-- ==== Proof.Parts.lean ====
/- One part's share of each round. -/
module

public import proofs.«01_k».proof.Proof.Exchange

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

section Pay
variable (x : X) (c : Dev nD)

theorem sendPay_lt (hs : x.2.val < 3) : sendPay a b x c = ptStage c (rows (areaR x.1 x.2 c) (cnt x.2)) fullShare (sent a b x.1 x.2 c) := by
  unfold sendPay ptSrc shr; rw [if_pos hs, if_pos (by omega)]
theorem sendPay_ge (hs : ¬ x.2.val < 3) : sendPay a b x c = ptAg c (rows (areaR x.1 x.2 c) (cnt x.2)) (shr x.2) (sent a b x.1 x.2 c) := by
  unfold sendPay ptSrc; rw [if_neg hs]
theorem recvPay_lt (hs : x.2.val < 3) :
    recvPay a b x c = ptScr c (rows (areaR x.1 x.2 c) (cnt x.2)) fullShare (sent a b x.1 x.2 (peer x.1 x.2 c)) := by
  unfold recvPay ptDst; rw [if_pos hs, areaR_peer x.1 hs (prx x c) c]
theorem sent_ge (p : Fin 6) {s : Fin 5} (hs : ¬ s.val < 3) : sent a b p s c = gat a b c :=
  match s, hs with | 0, h => absurd (by decide) h | 1, h => absurd (by decide) h | 2, h => absurd (by decide) h | 3, _ => rfl | 4, _ => rfl
theorem recvPay_ge (hs : ¬ x.2.val < 3) : recvPay a b x c = ptAg c (rows (addR x.1 x.2 c) (cnt x.2)) fullShare (gat a b c) := by
  unfold recvPay ptDst; rw [if_neg hs, sent_ge a b _ _ hs, areaR_peer' x.1 (by omega)]
  refine pointsTo_congr fun i hi => gat_peer a b (by omega) (p := x.1) ?_
  have := addR_bounds x.1 x.2 c
  rw [mem_rows] at hi ⊢; omega

end Pay

/-! ## The bundles -/

/-- Rows of a buffer, holding anything. -/
def anyP (c : Dev nD) (lo n : ℕ) : sProp 𝕄 := iprop(∃ f, ptP (F := F) c (rows lo n) fullShare f)
def anyStage (c : Dev nD) (lo n : ℕ) : sProp 𝕄 := iprop(∃ f, ptStage (F := F) c (rows lo n) fullShare f)
def anyScr (c : Dev nD) (lo n : ℕ) : sProp 𝕄 := iprop(∃ f, ptScr (F := F) c (rows lo n) fullShare f)
def anyAg (c : Dev nD) (lo n : ℕ) : sProp 𝕄 := iprop(∃ f, ptAg (F := F) c (rows lo n) fullShare f)
def anyOut (c : Dev nD) (lo n : ℕ) : sProp 𝕄 := iprop(∃ f, ptOut (F := F) c (rows lo n) fullShare f)

/-- What starts exchange `x`: its two cells, the right to pay for it at both ends, and the credit for its arrival. -/
def kit (x : X) (c : Dev nD) : sProp 𝕄 :=
  iprop(atPos ER (sendCell x c) 0 ∅ 0 ∗ atPos ER (recvCell x c) 0 ∅ 0 ∗ dutyTok ER (sendCell x c) 0 0 ∗ dutyTok ER (recvCell x (prx x c)) 0 0
    ∗ cred (tallyAt (recvCell x c) () (N (cnt x.2))))
/-- An exchange under way, -/
def fly (x : X) (c : Dev nD) : sProp 𝕄 :=
  iprop(atPos ER (sendCell x c) 0 ∅ 0 ∗ atPos ER (recvCell x c) 0 ∅ 0 ∗ cred (tallyAt (recvCell x c) () (N (cnt x.2)))
    ∗ cred (tallyAt (sendCell x c) () (N (cnt x.2))))
/-- and over. -/
def zero (x : X) (c : Dev nD) : sProp 𝕄 := iprop(semVal (sendCell x c) 0 ∗ semVal (recvCell x c) 0)

/-- What one of the first three exchanges starts from, -/
def outSet (s : Fin 5) (p : Fin 6) (c : Dev nD) : sProp 𝕄 :=
  iprop(anyStage (F := F) c (areaR p s c) (cnt s) ∗ kit (F := F) (p, s) c ∗ landAny (F := F) (p, s) c)
/-- and leaves behind. -/
def outDone (s : Fin 5) (p : Fin 6) (c : Dev nD) : sProp 𝕄 :=
  iprop(zero (F := F) (p, s) c ∗ anyStage (F := F) c (areaR p s c) (cnt s) ∗ anyScr (F := F) c (areaR p s c) (cnt s))

/-- What is threaded through the kernel: what every device knows, the narrow factors, what is still owed. -/
def thr (K : Dev nD × CI → ℕ) (c : Dev nD) (n : ℕ) : sProp 𝕄 :=
  iprop(ctx a b K ∗ ptA c fullShare (k0_pay2 (a c)) ∗ ptB c fullShare (k0_pay3 (b c)) ∗ Ow c n)

variable (K : Dev nD × CI → ℕ) (c : Dev nD) (Q : PUnit.{1} → sProp (MT nD τ sig Unit (Elt F) ℕ UU ℕ))

/-! ## Both ends of an exchange -/

/-- One of the first three exchanges: the rows' departure, -/
theorem wp_depart (p : Fin 6) {s : Fin 5} (hs : s.val < 3) {o : Fin 2 → ℕ} (ho : o = ![areaR p s c, 0]) (h : Inb (cnt s) o)
    (hw : (rR (cnt s) o h).WholeWords (EltTy.packing .bf16)) (d : Dev nD) (hd : d = peer p s c) (n : ℕ) (hn : n = 6 * s.val + p.val) (k : PR F) :
    iprop(thr a b K c n ∗ ptStage c (rows (areaR p s c) (cnt s)) fullShare (sent a b p s c) ∗ kit (p, s) c ∗ landAny (F := F) (p, s) c)
      ⊢ iprop(((thr a b K c (n + 1) ∗ fly (p, s) c) -∗ wpc c k Q)
          -∗ wpc c (send (cnt s) mStage isStage mScr isScr o h hw d (sendSem (p, s)) (recvSem (p, s)) k) Q) := by
  subst hn
  unfold thr kit fly
  iintro ⟨⟨#Hc, Ha, Hb, HO⟩, Hs, ⟨H1, H2, H3, H4, H5⟩, Hl⟩ Hk
  iapply (wp_sendOut a b K c (p, s) hs Q ho h hw d hd k) $$ [Hs Hl HO H3 H4]
  · isplitr; · iexact Hc
    isplitl [Hs]; · iexact Hs
    isplitl [Hl]; · iexact Hl
    isplitl [HO]; · iexact HO
    isplitl [H3]; · iexact H3
    iexact H4
  iintro ⟨H6, HO⟩
  iapply Hk
  isplitl [Ha Hb HO]
  · isplitr; · iexact Hc
    isplitl [Ha]; · iexact Ha
    isplitl [Hb]; · iexact Hb
    iexact HO
  isplitl [H1]; · iexact H1
  isplitl [H2]; · iexact H2
  isplitl [H5]; · iexact H5
  iexact H6

/-- and that of rows going back. -/
theorem wp_departBack (p : Fin 6) {s : Fin 5} (hs : ¬ s.val < 3) {o : Fin 2 → ℕ} (ho : o = ![areaR p s c, 0]) (h : Inb (cnt s) o)
    (hw : (rR (cnt s) o h).WholeWords (EltTy.packing .bf16)) (d : Dev nD) (hd : d = peer p s c) (n : ℕ) (hn : n = 6 * s.val + p.val) (k : PR F) :
    iprop(thr a b K c n ∗ ptAg c (rows (areaR p s c) (cnt s)) (shr s) (gat a b c) ∗ kit (p, s) c ∗ landAny (F := F) (p, s) c)
      ⊢ iprop(((thr a b K c (n + 1) ∗ fly (p, s) c) -∗ wpc c k Q)
          -∗ wpc c (send (cnt s) mAg isAg mAg isAg o h hw d (sendSem (p, s)) (recvSem (p, s)) k) Q) := by
  subst hn
  unfold thr kit fly
  iintro ⟨⟨#Hc, Ha, Hb, HO⟩, Hs, ⟨H1, H2, H3, H4, H5⟩, Hl⟩ Hk
  iapply (wp_sendBack a b K c (p, s) hs Q ho h hw d hd k) $$ [Hs Hl HO H3 H4]
  · isplitr; · iexact Hc
    isplitl [Hs]; · rw [sent_ge a b c p hs]; iexact Hs
    isplitl [Hl]; · iexact Hl
    isplitl [HO]; · iexact HO
    isplitl [H3]; · iexact H3
    iexact H4
  iintro ⟨H6, HO⟩
  iapply Hk
  isplitl [Ha Hb HO]
  · isplitr; · iexact Hc
    isplitl [Ha]; · iexact Ha
    isplitl [Hb]; · iexact Hb
    iexact HO
  isplitl [H1]; · iexact H1
  isplitl [H2]; · iexact H2
  isplitl [H5]; · iexact H5
  iexact H6

/-- The two waits that end an exchange. -/
theorem wp_arrive (p : Fin 6) (s : Fin 5) (m : Memref sig .tc .vmem S1536x1536 .bf16) (hm : m.IsWhole) (m' : Memref sig .tc .vmem S1536x1536 .bf16) (hm' : m'.IsWhole)
    (o : Fin 2 → ℕ) (h : Inb (cnt s) o) (hw : (rR (cnt s) o h).WholeWords (EltTy.packing .bf16)) (n : ℕ) (hn : 6 * (s.val + 1) ≤ n) (k : PR F)
    (hc : (sl m (cnt s) o h).view.dmaCredit = N (cnt s)) (hc' : (sl m' (cnt s) o h).view.dmaCredit = N (cnt s)) :
    iprop(thr a b K c n ∗ fly (p, s) c)
      ⊢ iprop(((thr a b K c n ∗ zero (p, s) c ∗ sendPay a b (p, s) c ∗ recvPay a b (p, s) c) -∗ wpc c k Q)
          -∗ wpc c (await (cnt s) m hm m' hm' o h hw (sendSem (p, s)) <| await (cnt s) m' hm' m hm o h hw (recvSem (p, s)) k) Q) := by
  unfold thr fly zero
  iintro ⟨⟨#Hc, Ha, Hb, HO⟩, H1, H2, H3, H4⟩ Hk
  iapply (wp_awaitSend a b K c (p, s) Q m hm m' hm' o h hw _ n hc') $$ [H1 H4 HO]
  · isplitr; · iexact Hc
    isplitl [H4]; · iexact H4
    isplitl [HO]; · iexact HO
    iexact H1
  iintro ⟨HO, Hz, Hs⟩
  iapply (wp_awaitRecv a b K c (p, s) Q m' hm' m hm o h hw k n hn hc) $$ [H2 H3 HO]
  · isplitr; · iexact Hc
    isplitl [H3]; · iexact H3
    isplitl [HO]; · iexact HO
    iexact H2
  iintro ⟨HO, Hz', Hr⟩
  iapply Hk
  isplitl [Ha Hb HO]
  · isplitr; · iexact Hc
    isplitl [Ha]; · iexact Ha
    isplitl [Hb]; · iexact Hb
    iexact HO
  isplitl [Hz Hz']
  · isplitl [Hz]; · iexact Hz
    iexact Hz'
  isplitl [Hs]; · iexact Hs
  iexact Hr

end Cert.KernelIdeal.Hand
-- ==== Proof.Turns.lean ====
/- What one part does in each of the rounds, from what it needs to what it leaves. -/
module

public import proofs.«01_k».proof.Proof.Parts

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

variable (a : Dev nD → Vec F S1536x768 .f32) (b : Dev nD → Vec F S768x1536 .f32)
variable (K : Dev nD × CI → ℕ) (c : Dev nD) (Q : PUnit.{1} → sProp (MT nD τ sig Unit (Elt F) ℕ UU ℕ)) (p : Fin 6) (k : PR F)

/-! ## The first product and exchange -/

/-- The rows to send first, once multiplied and rounded. -/
def packed : sProp 𝕄 := iprop(anyP (F := F) c (sendR p c) 128 ∗ ptStage c (rows (areaR p 0 c) 128) fullShare (sent a b p 0 c))

theorem wp_pack0 (n : ℕ) :
    iprop(thr a b K c n ∗ anyP (F := F) c (sendR p c) 128 ∗ anyStage (F := F) c (areaR p 0 c) 128)
      ⊢ iprop(((thr a b K c n ∗ packed a b c p) -∗ wpc c k Q) -∗ wpc c (pack0 p c k) Q) := by
  unfold pack0 thr anyP anyStage packed anyP
  iintro ⟨⟨#Hc, Ha, Hb, HO⟩, ⟨%f, Hp⟩, ⟨%g, Hs⟩⟩ Hk
  iapply (wp_mm c a b Q (offSendA_eq p c) (offSend_eq p c) (part_bounds p c).2.2.2.2.2.2.2.2.2 (offSendA_inb p c) (offSend_inb p c) f _) $$ [Ha Hb Hp]
  · isplitl [Ha]; · iexact Ha
    isplitl [Hb]; · iexact Hb
    iexact Hp
  iintro ⟨Ha, Hb, Hp⟩
  iapply (wp_copyOut c a b Q p (s := 0) (by decide) h_S128x1536 (offSend_eq p c) rfl (offSend_inb p c) (offX0_inb p) (offX0_packed p) g k) $$ [Hp Hs]
  · isplitl [Hp]; · iexact Hp
    iexact Hs
  iintro ⟨Hp, Hs⟩
  iapply Hk
  isplitl [Ha Hb HO]
  · isplitr; · iexact Hc
    isplitl [Ha]; · iexact Ha
    isplitl [Hb]; · iexact Hb
    iexact HO
  isplitl [Hp]; · iexists _; iexact Hp
  iexact Hs

theorem wp_send0 :
    iprop(thr a b K c p.val ∗ packed a b c p ∗ kit (p, 0) c ∗ landAny (F := F) (p, 0) c)
      ⊢ iprop(((thr a b K c (p.val + 1) ∗ anyP (F := F) c (sendR p c) 128 ∗ fly (p, 0) c) -∗ wpc c k Q) -∗ wpc c (send0 p c k) Q) := by
  unfold packed
  iintro ⟨Ht, ⟨Hp, Hs⟩, Hkit, Hl⟩ Hk
  iapply (wp_depart a b K c Q p (s := 0) (by decide) rfl (offX0_inb p) (offX0_words p) (dv p 0 c) (dv_eq p 0 c) p.val (by simp) k) $$ [Ht Hs Hkit Hl]
  · isplitl [Ht]; · iexact Ht
    isplitl [Hs]; · iexact Hs
    isplitl [Hkit]; · iexact Hkit
    iexact Hl
  iintro ⟨Ht, Hf⟩
  iapply Hk
  isplitl [Ht]; · iexact Ht
  isplitl [Hp]; · iexact Hp
  iexact Hf

theorem wp_keep (n : ℕ) :
    iprop(anyP (F := F) c (keepR p c) 128 ∗ thr a b K c n)
      ⊢ iprop(((ptP c (rows (keepR p c) 128) fullShare (sm a b 0 c) ∗ thr a b K c n) -∗ wpc c k Q) -∗ wpc c (keep p c k) Q) := by
  unfold keep thr anyP
  iintro ⟨⟨%f, Hp⟩, #Hc, Ha, Hb, HO⟩ Hk
  iapply (wp_mm c a b Q (offKeepA_eq p c) (offKeep_eq p c) (part_bounds p c).2.2.2.2.2.2.2.2.1 (offKeepA_inb p c) (offKeep_inb p c) f _) $$ [Ha Hb Hp]
  · isplitl [Ha]; · iexact Ha
    isplitl [Hb]; · iexact Hb
    iexact Hp
  iintro ⟨Ha, Hb, Hp⟩
  iapply Hk
  isplitl [Hp]; · iexact Hp
  isplitr; · iexact Hc
  isplitl [Ha]; · iexact Ha
  isplitl [Hb]; · iexact Hb
  iexact HO

/-! ## The exchanges of sums -/

/-- Before and after the round in which the first exchange arrives, -/
def pre0 : sProp 𝕄 := iprop(fly (F := F) (p, 0) c ∗ ptP c (rows (keepR p c) 128) fullShare (sm a b 0 c) ∗ outSet (F := F) 1 p c)
def post0 : sProp 𝕄 := iprop((anyP (F := F) c (send1R p c) 64 ∗ outDone (F := F) 0 p c) ∗ fly (F := F) (p, 1) c ∗ ptP c (rows (ownR p c) 64) fullShare (sm a b 1 c))
/-- the second, -/
def pre1 : sProp 𝕄 := iprop(fly (F := F) (p, 1) c ∗ ptP c (rows (ownR p c) 64) fullShare (sm a b 1 c) ∗ outSet (F := F) 2 p c)
def post1 : sProp 𝕄 := iprop(outDone (F := F) 1 p c ∗ fly (F := F) (p, 2) c ∗ ptP c (rows (ownR p c) 64) fullShare (sm a b 2 c))
/-- the third, -/
def pre2 : sProp 𝕄 := iprop(fly (F := F) (p, 2) c ∗ ptP c (rows (ownR p c) 64) fullShare (sm a b 2 c)
  ∗ anyOut (F := F) c (ownR p c) 64 ∗ anyAg (F := F) c (ownR p c) 64 ∗ kit (F := F) (p, 3) c ∗ landAny (F := F) (p, 3) c)
def post2 : sProp 𝕄 := iprop((outDone (F := F) 2 p c ∗ anyP (F := F) c (ownR p c) 64 ∗ ptOut c (rows (ownR p c) 64) fullShare (res a b c)) ∗ fly (F := F) (p, 3) c)
/-- the fourth, -/
def pre3 : sProp 𝕄 := iprop(fly (F := F) (p, 3) c ∗ anyOut (F := F) c (send1R p c) 64 ∗ kit (F := F) (p, 4) c ∗ landAny (F := F) (p, 4) c)
def post3 : sProp 𝕄 := iprop((zero (F := F) (p, 3) c ∗ ptOut c (rows (send1R p c) 64) fullShare (res a b c))
  ∗ fly (F := F) (p, 4) c ∗ ptAg c (rows (keepR p c) 128) fullShare.right (gat a b c))
/-- and the last. -/
def pre4 : sProp 𝕄 := iprop(fly (F := F) (p, 4) c ∗ ptAg c (rows (keepR p c) 128) fullShare.right (gat a b c) ∗ anyOut (F := F) c (sendR p c) 128)
def post4 : sProp 𝕄 := iprop(zero (F := F) (p, 4) c ∗ ptOut c (rows (sendR p c) 128) fullShare (res a b c) ∗ anyAg (F := F) c (keepR p c) 128 ∗ anyAg (F := F) c (sendR p c) 128)

theorem wp_round0 :
    iprop(pre0 a b c p ∗ thr a b K c (6 + p.val))
      ⊢ iprop(((post0 a b c p ∗ thr a b K c (6 + p.val + 1)) -∗ wpc c k Q) -∗ wpc c (round0 p c k) Q) := by
  unfold round0 pre0 post0 outSet outDone anyStage anyScr anyP
  iintro ⟨⟨Hf, Hp, ⟨%g, Hst⟩, Hkit, Hl⟩, Ht⟩ Hk
  iapply (wp_arrive a b K c Q p 0 mScr isScr mStage isStage (offX0 p) (offX0_inb p) (offX0_words p) (6 + p.val) (by simp) _ rfl rfl) $$ [Ht Hf]
  · isplitl [Ht]; · iexact Ht
    iexact Hf
  iintro ⟨Ht, Hz, Hs, Hr⟩
  ihave Hs := (Entails.of_eq (sendPay_lt a b (p, 0) c (by decide : (0 : ℕ) < 3))) $$ Hs
  ihave Hr := (Entails.of_eq (recvPay_lt a b (p, 0) c (by decide : (0 : ℕ) < 3))) $$ Hr
  iapply (wp_addIn c a b Q p (s := 0) (by decide) h_S128x1536 (offKeep_eq p c) rfl (offKeep_inb p c) (offX0_inb p) _) $$ [Hp Hr]
  · isplitl [Hp]; · iexact Hp
    iexact Hr
  iintro ⟨Hp, Hr⟩
  ihave Hp := (Entails.of_eq (show ptP c (rows (addR p 0 c) (cnt 0)) fullShare (sm a b ((0 : Fin 5).val + 1) c) = ptP c (rows (send1R p c) 64 ∪ rows (ownR p c) 64) fullShare (sm a b 1 c) from by
    rw [← rows_keep]; rfl)) $$ Hp
  unfold ptP
  ihave Hp := (pointsTo_union (send1_own_disjoint p c)).1 $$ Hp
  icases Hp with ⟨Hp, Hp'⟩
  iapply (wp_copyOut c a b Q p (s := 1) (by decide) h_S64x1536 (offSend1_eq p c) rfl (offSend1_inb p c) (offX1_inb p) (offX1_packed p) g _) $$ [Hp Hst]
  · isplitl [Hp]; · unfold ptP; iexact Hp
    iexact Hst
  iintro ⟨Hp, Hst⟩
  iapply (wp_depart a b K c Q p (s := 1) (by decide) rfl (offX1_inb p) (offX1_words p) (dv p 1 c) (dv_eq p 1 c) (6 + p.val) (by simp) k) $$ [Ht Hst Hkit Hl]
  · isplitl [Ht]; · iexact Ht
    isplitl [Hst]; · iexact Hst
    isplitl [Hkit]; · iexact Hkit
    iexact Hl
  iintro ⟨Ht, Hf⟩
  iapply Hk
  isplitr [Ht]
  · isplitl [Hp Hz Hs Hr]
    · isplitl [Hp]; · iexists _; unfold ptP; iexact Hp
      isplitl [Hz]; · iexact Hz
      isplitl [Hs]; · iexists _; iexact Hs
      iexists _; iexact Hr
    isplitl [Hf]; · iexact Hf
    iexact Hp'
  iexact Ht

theorem wp_round1 :
    iprop(pre1 a b c p ∗ thr a b K c (12 + p.val))
      ⊢ iprop(((post1 a b c p ∗ thr a b K c (12 + p.val + 1)) -∗ wpc c k Q) -∗ wpc c (round1 p c k) Q) := by
  unfold round1 pre1 post1 outSet outDone anyStage anyScr
  iintro ⟨⟨Hf, Hp, ⟨%g, Hst⟩, Hkit, Hl⟩, Ht⟩ Hk
  iapply (wp_arrive a b K c Q p 1 mScr isScr mStage isStage (offX1 p) (offX1_inb p) (offX1_words p) (12 + p.val) (by simp) _ rfl rfl) $$ [Ht Hf]
  · isplitl [Ht]; · iexact Ht
    iexact Hf
  iintro ⟨Ht, Hz, Hs, Hr⟩
  ihave Hs := (Entails.of_eq (sendPay_lt a b (p, 1) c (by decide : (1 : ℕ) < 3))) $$ Hs
  ihave Hr := (Entails.of_eq (recvPay_lt a b (p, 1) c (by decide : (1 : ℕ) < 3))) $$ Hr
  iapply (wp_addIn c a b Q p (s := 1) (by decide) h_S64x1536 (offOwn_eq p c) rfl (offOwn_inb p c) (offX1_inb p) _) $$ [Hp Hr]
  · isplitl [Hp]; · iexact Hp
    iexact Hr
  iintro ⟨Hp, Hr⟩
  iapply (wp_copyOut c a b Q p (s := 2) (by decide) h_S64x1536 (offOwn_eq p c) rfl (offOwn_inb p c) (offX2_inb p) (offX2_packed p) g _) $$ [Hp Hst]
  · isplitl [Hp]; · iexact Hp
    iexact Hst
  iintro ⟨Hp, Hst⟩
  iapply (wp_depart a b K c Q p (s := 2) (by decide) rfl (offX2_inb p) (offX2_words p) (dv p 2 c) (dv_eq p 2 c) (12 + p.val) (by simp) k) $$ [Ht Hst Hkit Hl]
  · isplitl [Ht]; · iexact Ht
    isplitl [Hst]; · iexact Hst
    isplitl [Hkit]; · iexact Hkit
    iexact Hl
  iintro ⟨Ht, Hf⟩
  iapply Hk
  isplitr [Ht]
  · isplitl [Hz Hs Hr]
    · isplitl [Hz]; · iexact Hz
      isplitl [Hs]; · iexists _; iexact Hs
      iexists _; iexact Hr
    isplitl [Hf]; · iexact Hf
    iexact Hp
  iexact Ht

theorem wp_round2 :
    iprop(pre2 a b c p ∗ thr a b K c (18 + p.val))
      ⊢ iprop(((post2 a b c p ∗ thr a b K c (18 + p.val + 1)) -∗ wpc c k Q) -∗ wpc c (round2 p c k) Q) := by
  unfold round2 pre2 post2 outDone anyStage anyScr anyP anyAg anyOut
  iintro ⟨⟨Hf, Hp, ⟨%f, Ho⟩, ⟨%g, Hg⟩, Hkit, Hl⟩, Ht⟩ Hk
  iapply (wp_arrive a b K c Q p 2 mScr isScr mStage isStage (offX2 p) (offX2_inb p) (offX2_words p) (18 + p.val) (by simp) _ rfl rfl) $$ [Ht Hf]
  · isplitl [Ht]; · iexact Ht
    iexact Hf
  iintro ⟨Ht, Hz, Hs, Hr⟩
  ihave Hs := (Entails.of_eq (sendPay_lt a b (p, 2) c (by decide : (2 : ℕ) < 3))) $$ Hs
  ihave Hr := (Entails.of_eq (recvPay_lt a b (p, 2) c (by decide : (2 : ℕ) < 3))) $$ Hr
  iapply (wp_addIn c a b Q p (s := 2) (by decide) h_S64x1536 (offOwn_eq p c) rfl (offOwn_inb p c) (offX2_inb p) _) $$ [Hp Hr]
  · isplitl [Hp]; · iexact Hp
    iexact Hr
  iintro ⟨Hp, Hr⟩
  iapply (wp_actOwn c a b Q p (offOwn_eq p c) (offOwn_inb p c) (offOwn_packed p c) f g _) $$ [Hp Ho Hg]
  · isplitl [Hp]; · iexact Hp
    isplitl [Ho]; · iexact Ho
    iexact Hg
  iintro ⟨Hp, Ho, Hg⟩
  iapply (wp_departBack a b K c Q p (s := 3) (by decide) (offG0_eq p c) (offG0_inb p c) (offG0_words p c) (dv p 3 c) (dv_eq p 3 c) (18 + p.val) (by simp) k) $$ [Ht Hg Hkit Hl]
  · isplitl [Ht]; · iexact Ht
    isplitl [Hg]; · iexact Hg
    isplitl [Hkit]; · iexact Hkit
    iexact Hl
  iintro ⟨Ht, Hf⟩
  iapply Hk
  isplitr [Ht]
  · isplitl [Hz Hs Hr Hp Ho]
    · isplitl [Hz Hs Hr]
      · isplitl [Hz]; · iexact Hz
        isplitl [Hs]; · iexists _; iexact Hs
        iexists _; iexact Hr
      isplitl [Hp]; · iexists _; iexact Hp
      iexact Ho
    iexact Hf
  iexact Ht

/-- Half of the share of the kept rows of the gather leaves; the other half stays. -/
theorem keep_share (f : Vec F S1536x1536 .bf16) :
    ptAg c (rows (keepR p c) 128) fullShare f ⊣⊢ iprop(ptAg c (rows (keepR p c) 128) fullShare.left f ∗ ptAg c (rows (keepR p c) 128) fullShare.right f) :=
  pointsTo_share (PosShare.mem_left_op_right fullShare)
/-- The kept rows are those received back first and those owned. -/
theorem keep_split (q : PosShare TreeShare) (f : Vec F S1536x1536 .bf16) :
    ptAg c (rows (keepR p c) 128) q f ⊣⊢ iprop(ptAg c (rows (send1R p c) 64) q f ∗ ptAg c (rows (ownR p c) 64) q f) := by
  rw [rows_keep]; exact pointsTo_union (send1_own_disjoint p c)

theorem wp_round3 :
    iprop(pre3 (F := F) c p ∗ thr a b K c (24 + p.val))
      ⊢ iprop(((post3 a b c p ∗ thr a b K c (24 + p.val + 1)) -∗ wpc c k Q) -∗ wpc c (round3 p c k) Q) := by
  unfold round3 pre3 post3 anyOut
  iintro ⟨⟨Hf, ⟨%f, Ho⟩, Hkit, Hl⟩, Ht⟩ Hk
  iapply (wp_arrive a b K c Q p 3 mAg isAg mAg isAg (offG0 p c) (offG0_inb p c) (offG0_words p c) (24 + p.val) (by simp) _ rfl rfl) $$ [Ht Hf]
  · isplitl [Ht]; · iexact Ht
    iexact Hf
  iintro ⟨Ht, Hz, Hs, Hr⟩
  ihave Hs := (Entails.of_eq (sendPay_ge a b (p, 3) c (by decide : ¬ (3 : ℕ) < 3))) $$ Hs
  ihave Hr := (Entails.of_eq (recvPay_ge a b (p, 3) c (by decide : ¬ (3 : ℕ) < 3))) $$ Hr
  ihave Hg := (keep_split c p fullShare (gat a b c)).2 $$ [Hs Hr]
  · isplitl [Hr]; · iexact Hr
    iexact Hs
  ihave Hg := (keep_share c p (gat a b c)).1 $$ Hg
  icases Hg with ⟨Hg, Hg'⟩
  iapply (wp_departBack a b K c Q p (s := 4) (by decide) (offG1_eq p c) (offG1_inb p c) (offG1_words p c) (dv p 4 c) (dv_eq p 4 c) (24 + p.val) (by simp) _) $$ [Ht Hg Hkit Hl]
  · isplitl [Ht]; · iexact Ht
    isplitl [Hg]; · iexact Hg
    isplitl [Hkit]; · iexact Hkit
    iexact Hl
  iintro ⟨Ht, Hf⟩
  ihave Hg' := (keep_split c p fullShare.right (gat a b c)).1 $$ Hg'
  icases Hg' with ⟨Hr, Hs⟩
  iapply (wp_copyBack c a b Q h_S64x1536 (offR0_eq p c) (fun i hi => owner_send1 hi) (offR0_inb p c) fullShare.right f k) $$ [Hr Ho]
  · isplitl [Hr]; · iexact Hr
    iexact Ho
  iintro ⟨Hr, Ho⟩
  iapply Hk
  isplitr [Ht]
  · isplitl [Hz Ho]
    · isplitl [Hz]; · iexact Hz
      iexact Ho
    isplitl [Hf]; · iexact Hf
    iapply (keep_split c p fullShare.right (gat a b c)).2
    isplitl [Hr]; · iexact Hr
    iexact Hs
  iexact Ht

theorem wp_round4 (n : ℕ) (hn : 30 ≤ n) :
    iprop(pre4 a b c p ∗ thr a b K c n)
      ⊢ iprop(((post4 a b c p ∗ thr a b K c n) -∗ wpc c k Q) -∗ wpc c (round4 p c k) Q) := by
  unfold round4 pre4 post4 anyOut anyAg
  iintro ⟨⟨Hf, Hg, ⟨%f, Ho⟩⟩, Ht⟩ Hk
  iapply (wp_arrive a b K c Q p 4 mAg isAg mAg isAg (offG1 p c) (offG1_inb p c) (offG1_words p c) n hn _ rfl rfl) $$ [Ht Hf]
  · isplitl [Ht]; · iexact Ht
    iexact Hf
  iintro ⟨Ht, Hz, Hs, Hr⟩
  ihave Hs := (Entails.of_eq ((sendPay_ge a b (p, 4) c (by decide : ¬ (4 : ℕ) < 3)).trans (by rw [show sent a b (p, (4 : Fin 5)).1 (p, (4 : Fin 5)).2 c = gat a b c from rfl]))) $$ Hs
  ihave Hr := (Entails.of_eq (recvPay_ge a b (p, 4) c (by decide : ¬ (4 : ℕ) < 3))) $$ Hr
  ihave Hg := (keep_share c p (gat a b c)).2 $$ [Hs Hg]
  · isplitl [Hs]; · iexact Hs
    iexact Hg
  iapply (wp_copyBack c a b Q h_S128x1536 (offR1_eq p c) (fun i hi => owner_send hi) (offR1_inb p c) fullShare f k) $$ [Hr Ho]
  · isplitl [Hr]; · iexact Hr
    iexact Ho
  iintro ⟨Hr, Ho⟩
  iapply Hk
  isplitr [Ht]
  · isplitl [Hz]; · iexact Hz
    isplitl [Ho]; · iexact Ho
    isplitl [Hg]; · iexists _; iexact Hg
    iexists _; iexact Hr
  iexact Ht

end Cert.KernelIdeal.Hand
-- ==== Proof.Cut.lean ====
/- The buffers cut into the parts' rows and put together again. -/
module

public import proofs.«01_k».proof.Proof.Turns

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

/-! ## Cutting rows -/

section Cut
variable (R : Finset S1536x1536.Idx → sProp (MT nD τ sig Unit (Elt F) ℕ UU ℕ))

theorem univ_rows : (Finset.univ : Finset S1536x1536.Idx) = rows 0 1536 := by
  ext i; have := row_lt i; simp only [Finset.mem_univ, mem_rows, true_iff]; omega

theorem part_rows (p : Fin 6) (lo : ℕ) (h : lo = 256 * p.val) : rows lo (256 * (6 - p.val)) = rows (256 * p.val) 256 ∪ rows (lo + 256) (256 * (5 - p.val)) := by
  subst h
  rw [← rows_append]; congr 1; omega

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide), bigSepL_cons_cons, bigSepL_cons_cons, bigSepL_cons_cons, bigSepL_cons_cons, bigSepL_cons_cons, bigSepL_singleton]
  rfl

theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons, bigSepL_cons_cons, bigSepL_singleton]
  rfl

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-- Something per exchange is something per part, for each of the five. -/
theorem by_exchange (Φ : X → sProp 𝕄) : bigSep Finset.univ Φ = iprop(bigSep Finset.univ (fun p => Φ (p, 0)) ∗ bigSep Finset.univ (fun p => Φ (p, 1))
    ∗ bigSep Finset.univ (fun p => Φ (p, 2)) ∗ bigSep Finset.univ (fun p => Φ (p, 3)) ∗ bigSep Finset.univ (fun p => Φ (p, 4))) := by
  rw [bigSep_univ_prod, bigSep_congr (fun p _ => five fun s => Φ (p, s)), bigSep_sep', bigSep_sep', bigSep_sep', bigSep_sep']

/-- A property of row sets that passes to disjoint pieces, -/
def Splits : Prop := ∀ I J, Disjoint I J → R (I ∪ J) ⊢ iprop(R I ∗ R J)
/-- or from them. -/
def Joins : Prop := ∀ I J, Disjoint I J → iprop(R I ∗ R J) ⊢ R (I ∪ J)

variable {R}

theorem Splits.step (h : Splits R) (p : Fin 6) (lo lo' m n : ℕ) (hlo : lo = 256 * p.val) (hlo' : lo' = lo + 256) (hn : n = m + 256) :
    R (rows lo n) ⊢ iprop(R (rows (256 * p.val) 256) ∗ R (rows lo' m)) := by
  subst hlo hlo' hn
  rw [Nat.add_comm m 256, rows_append]
  exact h _ _ (rows_disjoint (by omega))

theorem Splits.parts (h : Splits R) : R Finset.univ ⊢ bigSep Finset.univ fun p : Fin 6 => R (rows (256 * p.val) 256) := by
  rw [six, univ_rows]
  iintro H
  ihave H := (h.step 0 0 256 1280 1536 rfl rfl rfl) $$ H
  icases H with ⟨H0, H⟩
  ihave H := (h.step 1 256 512 1024 1280 rfl rfl rfl) $$ H
  icases H with ⟨H1, H⟩
  ihave H := (h.step 2 512 768 768 1024 rfl rfl rfl) $$ H
  icases H with ⟨H2, H⟩
  ihave H := (h.step 3 768 1024 512 768 rfl rfl rfl) $$ H
  icases H with ⟨H3, H⟩
  ihave H := (h.step 4 1024 1280 256 512 rfl rfl rfl) $$ H
  icases H with ⟨H4, H5⟩
  isplitl [H0]; · iexact H0
  isplitl [H1]; · iexact H1
  isplitl [H2]; · iexact H2
  isplitl [H3]; · iexact H3
  isplitl [H4]; · iexact H4
  iexact H5

theorem Joins.step (h : Joins R) (p : Fin 6) (lo lo' m n : ℕ) (hlo : lo = 256 * p.val) (hlo' : lo' = lo + 256) (hn : n = m + 256) :
    iprop(R (rows (256 * p.val) 256) ∗ R (rows lo' m)) ⊢ R (rows lo n) := by
  subst hlo hlo' hn
  rw [Nat.add_comm m 256, rows_append]
  exact h _ _ (rows_disjoint (by omega))

theorem Joins.parts (h : Joins R) : (bigSep Finset.univ fun p : Fin 6 => R (rows (256 * p.val) 256)) ⊢ R Finset.univ := by
  rw [six, univ_rows]
  iintro ⟨H0, H1, H2, H3, H4, H5⟩
  iapply (h.step 0 0 256 1280 1536 rfl rfl rfl)
  isplitl [H0]; · iexact H0
  iapply (h.step 1 256 512 1024 1280 rfl rfl rfl)
  isplitl [H1]; · iexact H1
  iapply (h.step 2 512 768 768 1024 rfl rfl rfl)
  isplitl [H2]; · iexact H2
  iapply (h.step 3 768 1024 512 768 rfl rfl rfl)
  isplitl [H3]; · iexact H3
  iapply (h.step 4 1024 1280 256 512 rfl rfl rfl)
  isplitl [H4]; · iexact H4
  iexact H5

variable (c : Dev nD)

/-- A part's rows: those sent first and those kept, -/
theorem Splits.halves (h : Splits R) : R Finset.univ ⊢ iprop(bigSep Finset.univ (fun p => R (rows (sendR p c) 128)) ∗ bigSep Finset.univ fun p => R (rows (keepR p c) 128)) := by
  rw [← bigSep_sep']
  refine h.parts.trans (bigSep_mono fun p _ => ?_)
  rw [rows_part p c]; exact h _ _ (send_keep_disjoint p c)
theorem Joins.halves (h : Joins R) : iprop(bigSep Finset.univ (fun p => R (rows (sendR p c) 128)) ∗ bigSep Finset.univ fun p => R (rows (keepR p c) 128)) ⊢ R Finset.univ := by
  rw [← bigSep_sep']
  refine BI.Entails.trans (bigSep_mono fun p _ => ?_) h.parts
  rw [rows_part p c]; exact h _ _ (send_keep_disjoint p c)

/-- of the kept ones those sent next and those owned. -/
theorem Splits.thirds (h : Splits R) : R Finset.univ ⊢ iprop(bigSep Finset.univ (fun p => R (rows (sendR p c) 128)) ∗ bigSep Finset.univ (fun p => R (rows (send1R p c) 64))
    ∗ bigSep Finset.univ fun p => R (rows (ownR p c) 64)) := by
  refine (h.halves c).trans (sep_mono_right ?_)
  rw [← bigSep_sep']
  refine bigSep_mono fun p _ => ?_
  rw [rows_keep p c]; exact h _ _ (send1_own_disjoint p c)
theorem Joins.thirds (h : Joins R) : iprop(bigSep Finset.univ (fun p => R (rows (sendR p c) 128)) ∗ bigSep Finset.univ (fun p => R (rows (send1R p c) 64))
    ∗ bigSep Finset.univ fun p => R (rows (ownR p c) 64)) ⊢ R Finset.univ := by
  have h' : iprop(bigSep Finset.univ (fun p => R (rows (send1R p c) 64)) ∗ bigSep Finset.univ fun p => R (rows (ownR p c) 64))
      ⊢ bigSep Finset.univ fun p => R (rows (keepR p c) 128) := by
    rw [← bigSep_sep']
    refine bigSep_mono fun p _ => ?_
    rw [rows_keep p c]; exact h _ _ (send1_own_disjoint p c)
  exact (sep_mono_right h').trans (h.halves c)

/-- The rows of the exchange buffers a part uses for the first three exchanges. -/
theorem area_rows (p : Fin 6) : rows (256 * p.val) 256 = rows (areaR p 0 c) 128 ∪ (rows (areaR p 1 c) 64 ∪ rows (areaR p 2 c) 64) := by
  show _ = rows (256 * p.val) 128 ∪ (rows (256 * p.val + 128) 64 ∪ rows (256 * p.val + 192) 64)
  rw [← rows_append (lo := 256 * p.val + 128) (n := 64) (m := 64), ← rows_append]
theorem area_disjoint (p : Fin 6) : Disjoint (rows (areaR p 0 c) 128) (rows (areaR p 1 c) 64 ∪ rows (areaR p 2 c) 64)
    ∧ Disjoint (rows (areaR p 1 c) 64) (rows (areaR p 2 c) 64) := by
  refine ⟨Finset.disjoint_union_right.mpr ⟨?_, ?_⟩, ?_⟩
  · exact rows_disjoint (.inl (show 256 * p.val + 128 ≤ 256 * p.val + 128 by omega))
  · exact rows_disjoint (.inl (show 256 * p.val + 128 ≤ 256 * p.val + 192 by omega))
  · exact rows_disjoint (.inl (show 256 * p.val + 128 + 64 ≤ 256 * p.val + 192 by omega))

theorem Splits.areas (h : Splits R) : R Finset.univ ⊢ iprop(bigSep Finset.univ (fun p => R (rows (areaR p 0 c) 128)) ∗ bigSep Finset.univ (fun p => R (rows (areaR p 1 c) 64))
    ∗ bigSep Finset.univ fun p => R (rows (areaR p 2 c) 64)) := by
  rw [← bigSep_sep', ← bigSep_sep']
  refine h.parts.trans (bigSep_mono fun p _ => ?_)
  rw [area_rows c p]
  exact (h _ _ (area_disjoint c p).1).trans (sep_mono_right (h _ _ (area_disjoint c p).2))
theorem Joins.areas (h : Joins R) : iprop(bigSep Finset.univ (fun p => R (rows (areaR p 0 c) 128)) ∗ bigSep Finset.univ (fun p => R (rows (areaR p 1 c) 64))
    ∗ bigSep Finset.univ fun p => R (rows (areaR p 2 c) 64)) ⊢ R Finset.univ := by
  rw [← bigSep_sep', ← bigSep_sep']
  refine BI.Entails.trans (bigSep_mono fun p _ => ?_) h.parts
  rw [area_rows c p]
  exact BI.Entails.trans (sep_mono_right (h _ _ (area_disjoint c p).2)) (h _ _ (area_disjoint c p).1)

end Cut

/-! ## The buffers have both properties -/

/-- Rows of a buffer holding anything, at whatever location. -/
theorem any_splits {ℓ : Loc nD τ sig} (q : PosShare TreeShare) (I J : Finset (Idx ℓ)) (h : Disjoint I J) :
    iprop(∃ f : Buf (Elt F) ℓ, ℓ ↦[I ∪ J]{q} f : sProp 𝕄) ⊢ iprop((∃ f : Buf (Elt F) ℓ, ℓ ↦[I]{q} f) ∗ ∃ f : Buf (Elt F) ℓ, ℓ ↦[J]{q} f) := by
  iintro ⟨%f, H⟩
  ihave H := (pointsTo_union h).1 $$ H
  icases H with ⟨H, H'⟩
  isplitl [H]
  · iexists f; iexact H
  iexists f; iexact H'
theorem any_joins {ℓ : Loc nD τ sig} (q : PosShare TreeShare) (I J : Finset (Idx ℓ)) (h : Disjoint I J) :
    iprop((∃ f : Buf (Elt F) ℓ, ℓ ↦[I]{q} f) ∗ ∃ f : Buf (Elt F) ℓ, ℓ ↦[J]{q} f : sProp 𝕄) ⊢ iprop(∃ f : Buf (Elt F) ℓ, ℓ ↦[I ∪ J]{q} f) := by
  iintro ⟨⟨%f, H⟩, ⟨%g, H'⟩⟩
  iexists _
  iapply (pointsTo_join h)
  isplitl [H]; · iexact H
  iexact H'

variable (c : Dev nD)

/-- The five buffers cut into rows, holding anything. -/
def RP (I : Finset S1536x1536.Idx) : sProp 𝕄 := iprop(∃ f, ptP (F := F) c I fullShare f)
def RStage (I : Finset S1536x1536.Idx) : sProp 𝕄 := iprop(∃ f, ptStage (F := F) c I fullShare f)
def RScr (I : Finset S1536x1536.Idx) : sProp 𝕄 := iprop(∃ f, ptScr (F := F) c I fullShare f)
def RAg (I : Finset S1536x1536.Idx) : sProp 𝕄 := iprop(∃ f, ptAg (F := F) c I fullShare f)
def ROut (I : Finset S1536x1536.Idx) : sProp 𝕄 := iprop(∃ f, ptOut (F := F) c I fullShare f)

theorem splits_P : Splits (RP (F := F) c) := fun I J h => any_splits (ℓ := (c : Thread nD τ).loc cc0_scratch2) fullShare I J h
theorem joins_P : Joins (RP (F := F) c) := fun I J h => any_joins (ℓ := (c : Thread nD τ).loc cc0_scratch2) fullShare I J h
theorem splits_Stage : Splits (RStage (F := F) c) := fun I J h => any_splits (ℓ := (c : Thread nD τ).loc cc0_scratch3) fullShare I J h
theorem joins_Stage : Joins (RStage (F := F) c) := fun I J h => any_joins (ℓ := (c : Thread nD τ).loc cc0_scratch3) fullShare I J h
theorem splits_Scr : Splits (RScr (F := F) c) := fun I J h => any_splits (ℓ := (c : Thread nD τ).loc cc0_scratch4) fullShare I J h
theorem joins_Scr : Joins (RScr (F := F) c) := fun I J h => any_joins (ℓ := (c : Thread nD τ).loc cc0_scratch4) fullShare I J h
theorem splits_Ag : Splits (RAg (F := F) c) := fun I J h => any_splits (ℓ := (c : Thread nD τ).loc cc0_scratch5) fullShare I J h
theorem joins_Ag : Joins (RAg (F := F) c) := fun I J h => any_joins (ℓ := (c : Thread nD τ).loc cc0_scratch5) fullShare I J h
theorem splits_Out : Splits (ROut (F := F) c) := fun I J h => any_splits (ℓ := (c : Thread nD τ).loc cc0_stg2_0) fullShare I J h

/-- The result's rows, holding `f`. -/
theorem joins_res (f : Vec F S1536x1536 .f32) : Joins (fun I => ptOut c I fullShare f) := fun I J h =>
  (pointsTo_union (ℓ := (c : Thread nD τ).loc cc0_stg2_0) (q := fullShare) (f := f) h).2

/-! ## Where the neighbours' exchanges land -/

theorem land_lt (x : X) (hs : x.2.val < 3) : RScr (F := F) c (rows (areaR x.1 x.2 c) (cnt x.2)) ⊢ landAny (F := F) x (prx x c) := by
  unfold landAny RScr ptDst
  simp only [prx_prx, if_pos hs, areaR_peer x.1 hs (prx x c) c]
  exact BI.Entails.refl _
theorem land_ge (x : X) (hs : ¬ x.2.val < 3) : RAg (F := F) c (rows (addR x.1 x.2 c) (cnt x.2)) ⊢ landAny (F := F) x (prx x c) := by
  unfold landAny RAg ptDst
  simp only [prx_prx, if_neg hs]
  rw [show areaR x.1 x.2 (prx x c) = addR x.1 x.2 c from areaR_peer' x.1 (by omega) c]

theorem lands_lt (s : Fin 5) (hs : s.val < 3) : bigSep Finset.univ (fun p : Fin 6 => RScr (F := F) c (rows (areaR p s c) (cnt s)))
    ⊢ bigSep Finset.univ fun p : Fin 6 => landAny (F := F) (p, s) (prx (p, s) c) :=
  bigSep_mono fun p _ => land_lt c (p, s) hs
theorem lands_ge (s : Fin 5) (hs : ¬ s.val < 3) : bigSep Finset.univ (fun p : Fin 6 => RAg (F := F) c (rows (addR p s c) (cnt s)))
    ⊢ bigSep Finset.univ fun p : Fin 6 => landAny (F := F) (p, s) (prx (p, s) c) :=
  bigSep_mono fun p _ => land_ge c (p, s) hs

/-- The landing rows of every exchange, from the two buffers they lie in; the owned rows of the gather are left. -/
theorem landings : iprop(RScr (F := F) c Finset.univ ∗ RAg (F := F) c Finset.univ)
    ⊢ iprop(bigSep Finset.univ (fun x : X => landAny (F := F) x (prx x c)) ∗ bigSep Finset.univ fun p => anyAg (F := F) c (ownR p c) 64) := by
  rw [by_exchange]
  iintro ⟨H, H'⟩
  ihave H := ((splits_Scr c).areas c) $$ H
  icases H with ⟨H0, H1, H2⟩
  ihave H' := ((splits_Ag c).thirds c) $$ H'
  icases H' with ⟨H4, H3, H5⟩
  isplitl [H0 H1 H2 H3 H4]
  · isplitl [H0]; · iapply (lands_lt c 0 (show (0 : ℕ) < 3 by decide)); iexact H0
    isplitl [H1]; · iapply (lands_lt c 1 (show (1 : ℕ) < 3 by decide)); iexact H1
    isplitl [H2]; · iapply (lands_lt c 2 (show (2 : ℕ) < 3 by decide)); iexact H2
    isplitl [H3]; · iapply (lands_ge c 3 (show ¬ (3 : ℕ) < 3 by decide)); iexact H3
    iapply (lands_ge c 4 (show ¬ (4 : ℕ) < 3 by decide)); iexact H4
  iexact H5

/-- They are what the three signals hand over. -/
theorem bar_pays : bigSep Finset.univ (fun x : X => landAny (F := F) x (prx x c)) ⊢ iprop(barPay (F := F) (flip 0 c) 0 ∗ barPay (F := F) (flip 1 c) 1 ∗ barPay (F := F) (flip 2 c) 2) := by
  rw [bigSep_fiberwise Finset.univ (fun x : X => link x.1 x.2), show Finset.univ.image (fun x : X => link x.1 x.2) = Finset.univ by decide, three]
  have h (j : Fin 3) : bigSep (Finset.univ.filter fun x : X => link x.1 x.2 = j) (fun x => landAny (F := F) x (prx x c)) = barPay (F := F) (flip j c) j :=
    bigSep_congr fun x hx => by rw [← (Finset.mem_filter.mp hx).2]; rfl
  rw [h, h, h]

end Cert.KernelIdeal.Hand
-- ==== Proof.Whole.lean ====
/- The whole body, from what a device starts with to what it leaves. -/
module

public import proofs.«01_k».proof.Proof.Cut

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

variable (a : Dev nD → Vec F S1536x768 .f32) (b : Dev nD → Vec F S768x1536 .f32)
variable (K : Dev nD × CI → ℕ) (c : Dev nD) (Q : PUnit.{1} → sProp (MT nD τ sig Unit (Elt F) ℕ UU ℕ))

/-! ## The barrier -/

theorem signal_one (j : Fin 3) (O : CellTallies nD τ sig Unit) (d : Dev nD) (hd : d = flip j c) (k : PR F) :
    iprop(ctx a b K ∗ (∃ W, owes (c : Thread nD τ) (O + tallyAt (barCell (flip j c)) () 1) W) ∗ dutyTok ER (barCell (flip j c)) 0 j ∗ barPay (F := F) (flip j c) j)
      ⊢ iprop(((∃ W, owes (c : Thread nD τ) O W) -∗ wpc c k Q) -∗ wpc c (.op (.semSignal (d, .tc) barS (1#32 : BitVec 32).toInt) fun _ => k) Q) := by
  subst hd
  unfold ctx
  iintro ⟨⟨#Hr, #Hl⟩, ⟨%W, HO⟩, Ht, Hp⟩ Hk
  ihave Hi := (recs_at a b K (flip j c) none) $$ Hr
  icases Hi with ⟨#HI, #HR⟩
  iapply (Rounds.wp_signal 𝒱₀ ER (Rd a b) (c : Thread nD τ) none (dst := (flip j c : Thread nD τ)) (κ := K (flip j c, none))
      (d := j) (by rw [duties_bar]; exact Finset.mem_univ _) ((amount_bar a b (flip j c) j).trans (by decide)) () O rfl)
    $$ [HO Ht Hp]
  · isplitr; · iexact HI
    isplitl [HO]; · iexact HO
    isplitl [Ht]; · iexact Ht
    isplitl [Hp]; · rw [payload_bar]; iexact Hp
    iexact HR
  iintro HO
  iapply Hk
  iexists W; iexact HO

theorem wp_signals (k : PR F) :
    iprop(ctx a b K ∗ (∃ W, owes (c : Thread nD τ) (O₀ c) W) ∗ (dutyTok ER (barCell (flip 0 c)) 0 0 ∗ dutyTok ER (barCell (flip 1 c)) 0 1 ∗ dutyTok ER (barCell (flip 2 c)) 0 2)
        ∗ bigSep Finset.univ (fun x : X => landAny (F := F) x (prx x c)))
      ⊢ iprop((Ow (F := F) c 0 -∗ wpc c k Q) -∗ wpc c (signals c k) Q) := by
  unfold signals Ow
  iintro ⟨#Hc, HO, ⟨Ht0, Ht1, Ht2⟩, Hl⟩ Hk
  ihave Hl := (bar_pays c) $$ Hl
  icases Hl with ⟨Hp0, Hp1, Hp2⟩
  iapply (signal_one a b K c Q 0 (O₁ c) (⟨k0_dev1 c, k0_dev1_lt c⟩ : Dev nD) rfl) $$ [HO Ht0 Hp0]
  · isplitr; · iexact Hc
    isplitl [HO]; · iexact HO
    isplitl [Ht0]; · iexact Ht0
    iexact Hp0
  iintro HO
  iapply (signal_one a b K c Q 1 (O₂ c) (⟨k0_dev2 c, k0_dev2_lt c⟩ : Dev nD) rfl) $$ [HO Ht1 Hp1]
  · isplitr; · iexact Hc
    isplitl [HO]; · iexact HO
    isplitl [Ht1]; · iexact Ht1
    iexact Hp1
  iintro HO
  iapply (signal_one a b K c Q 2 (Debt c 0) (⟨k0_dev3 c, k0_dev3_lt c⟩ : Dev nD) rfl) $$ [HO Ht2 Hp2]
  · isplitr; · iexact Hc
    isplitl [HO]; · iexact HO
    isplitl [Ht2]; · iexact Ht2
    iexact Hp2
  iexact Hk

theorem wp_waitBar (k : PR F) :
    iprop(thr a b K c 0 ∗ cred (tallyAt (barCell c) () 3) ∗ atPos ER (barCell c) 0 ∅ 0)
      ⊢ iprop(((thr a b K c 0 ∗ semVal (barCell c) 0 ∗ bigSep Finset.univ (fun x : X => landAny (F := F) x c)) -∗ wpc c k Q) -∗ wpc c (waitBar k) Q) := by
  unfold waitBar thr ctx Ow
  iintro ⟨⟨⟨#Hr, #Hl⟩, HA, HB, ⟨%W, HO⟩⟩, Hc, Hat⟩ Hk
  ihave Hi := (recs_at a b K c none) $$ Hr
  icases Hi with ⟨#HI, -⟩
  iapply (Rounds.wp_wait_rest_token 𝒱₀ ER (Rd a b) (c : Thread nD τ) none (κ := K (c, none))
      (wpE_semWait_eq 𝒱₀ (c : Thread nD τ) none Set.univ) (Set.mem_univ _) () (O := Debt c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hl
    iexact Hat
  iintro ⟨HO, Hat, -, Hpay⟩
  ihave Hp := (Entails.of_eq (rest_bar a b c)) $$ Hpay
  imod (Rounds.cell_close ER (Rd a b) (Set.mem_univ (K (c, none))) (fun h => h) (R := 0 + 1) (duties_later a b (barCell c))) $$ [Hat] with Hz
  · isplitr; · iexact HI
    iexact Hat
  iapply Hk
  isplitl [HA HB HO]
  · isplitr
    · isplitr; · iexact Hr
      iexact Hl
    isplitl [HA]; · iexact HA
    isplitl [HB]; · iexact HB
    iexists _; iexact HO
  isplitl [Hz]; · iexact Hz
  iexact Hp

/-! ## One step at each part -/

/-- Something of each part. -/
abbrev all (Φ : Fin 6 → sProp 𝕄) : sProp 𝕄 := bigSep Finset.univ Φ

theorem wp_each (f : Fin 6 → Dev nD → PR F → PR F) (Pre Post : Fin 6 → sProp (MT nD τ sig Unit (Elt F) ℕ UU ℕ)) (C : ℕ → sProp (MT nD τ sig Unit (Elt F) ℕ UU ℕ))
    (hf : ∀ (p : Fin 6) (k : PR F), iprop(Pre p ∗ C p.val) ⊢ iprop(((Post p ∗ C (p.val + 1)) -∗ wpc c k Q) -∗ wpc c (f p c k) Q)) (k : PR F) :
    iprop(all Pre ∗ C 0) ⊢ iprop(((all Post ∗ C 6) -∗ wpc c k Q) -∗ wpc c (each f c k) Q) := by
  have h (p : Fin 6) (n n' : ℕ) (hn : n = p.val) (hn' : n' = p.val + 1) (k : PR F) :
      iprop(Pre p ∗ C n) ⊢ iprop(((Post p ∗ C n') -∗ wpc c k Q) -∗ wpc c (f p c k) Q) := by
    subst hn hn'; exact hf p k
  unfold each all
  rw [six, six]
  iintro ⟨⟨H0, H1, H2, H3, H4, H5⟩, HC⟩ Hk
  iapply (h 0 0 1 rfl rfl _) $$ [H0 HC]
  · isplitl [H0]; · iexact H0
    iexact HC
  iintro ⟨H0, HC⟩
  iapply (h 1 1 2 rfl rfl _) $$ [H1 HC]
  · isplitl [H1]; · iexact H1
    iexact HC
  iintro ⟨H1, HC⟩
  iapply (h 2 2 3 rfl rfl _) $$ [H2 HC]
  · isplitl [H2]; · iexact H2
    iexact HC
  iintro ⟨H2, HC⟩
  iapply (h 3 3 4 rfl rfl _) $$ [H3 HC]
  · isplitl [H3]; · iexact H3
    iexact HC
  iintro ⟨H3, HC⟩
  iapply (h 4 4 5 rfl rfl _) $$ [H4 HC]
  · isplitl [H4]; · iexact H4
    iexact HC
  iintro ⟨H4, HC⟩
  iapply (h 5 5 6 rfl rfl _) $$ [H5 HC]
  · isplitl [H5]; · iexact H5
    iexact HC
  iintro ⟨H5, HC⟩
  iapply Hk
  isplitr [HC]
  · isplitl [H0]; · iexact H0
    isplitl [H1]; · iexact H1
    isplitl [H2]; · iexact H2
    isplitl [H3]; · iexact H3
    isplitl [H4]; · iexact H4
    iexact H5
  iexact HC

/-! ## The first exchange -/

theorem wp_first (p : Fin 6) (k : PR F) :
    iprop((anyP (F := F) c (sendR p c) 128 ∗ anyStage (F := F) c (areaR p 0 c) 128 ∗ kit (F := F) (p, 0) c ∗ landAny (F := F) (p, 0) c) ∗ thr a b K c p.val)
      ⊢ iprop((((anyP (F := F) c (sendR p c) 128 ∗ fly (F := F) (p, 0) c) ∗ thr a b K c (p.val + 1)) -∗ wpc c k Q) -∗ wpc c (pack0 p c (send0 p c k)) Q) := by
  iintro ⟨⟨HP, HS, Hk, Hl⟩, HT⟩ HQ
  iapply (wp_pack0 a b K c Q p _ p.val) $$ [HT HP HS]
  · isplitl [HT]; · iexact HT
    isplitl [HP]; · iexact HP
    iexact HS
  iintro ⟨HT, Hp⟩
  iapply (wp_send0 a b K c Q p _) $$ [HT Hp Hk Hl]
  · isplitl [HT]; · iexact HT
    isplitl [Hp]; · iexact Hp
    isplitl [Hk]; · iexact Hk
    iexact Hl
  iintro ⟨HT, HP, Hf⟩
  iapply HQ
  isplitl [HP Hf]
  · isplitl [HP]; · iexact HP
    iexact Hf
  iexact HT

/-- The first exchange of every part, the barrier awaited after the first part is packed. -/
def firsts (k : PR F) : PR F :=
  pack0 0 c <| waitBar <| send0 0 c <|
  pack0 1 c <| send0 1 c <| pack0 2 c <| send0 2 c <| pack0 3 c <| send0 3 c <| pack0 4 c <| send0 4 c <| pack0 5 c <| send0 5 c <| k

theorem wp_firsts (k : PR F) :
    iprop(thr a b K c 0 ∗ cred (tallyAt (barCell c) () 3) ∗ atPos ER (barCell c) 0 ∅ 0
        ∗ all (fun p => anyP (F := F) c (sendR p c) 128) ∗ all (fun p => anyStage (F := F) c (areaR p 0 c) 128) ∗ all (fun p => kit (F := F) (p, 0) c))
      ⊢ iprop(((thr a b K c 6 ∗ semVal (barCell c) 0 ∗ all (fun p => anyP (F := F) c (sendR p c) 128) ∗ all (fun p => fly (F := F) (p, 0) c)
          ∗ all (fun p => landAny (F := F) (p, 1) c) ∗ all (fun p => landAny (F := F) (p, 2) c) ∗ all (fun p => landAny (F := F) (p, 3) c) ∗ all (fun p => landAny (F := F) (p, 4) c))
        -∗ wpc c k Q) -∗ wpc c (firsts c k) Q) := by
  unfold firsts all
  rw [six fun p => anyP (F := F) c (sendR p c) 128, six fun p => anyStage (F := F) c (areaR p 0 c) 128, six fun p => kit (F := F) (p, 0) c, six fun p => fly (F := F) (p, 0) c]
  iintro ⟨HT, Hc, Hat, ⟨HP0, HP1, HP2, HP3, HP4, HP5⟩, ⟨HS0, HS1, HS2, HS3, HS4, HS5⟩, ⟨Hk0, Hk1, Hk2, Hk3, Hk4, Hk5⟩⟩ HQ
  iapply (wp_pack0 a b K c Q 0 _ 0) $$ [HT HP0 HS0]
  · isplitl [HT]; · iexact HT
    isplitl [HP0]; · iexact HP0
    iexact HS0
  iintro ⟨HT, Hp⟩
  iapply (wp_waitBar a b K c Q _) $$ [HT Hc Hat]
  · isplitl [HT]; · iexact HT
    isplitl [Hc]; · iexact Hc
    iexact Hat
  iintro ⟨HT, Hz, Hl⟩
  ihave Hl := (Entails.of_eq (by_exchange fun x : X => landAny (F := F) x c)) $$ Hl
  icases Hl with ⟨Hl, HL1, HL2, HL3, HL4⟩
  ihave Hl := (Entails.of_eq (six fun p => landAny (F := F) (p, 0) c)) $$ Hl
  icases Hl with ⟨Hl0, Hl1, Hl2, Hl3, Hl4, Hl5⟩
  iapply (wp_send0 a b K c Q 0 _) $$ [HT Hp Hk0 Hl0]
  · isplitl [HT]; · iexact HT
    isplitl [Hp]; · iexact Hp
    isplitl [Hk0]; · iexact Hk0
    iexact Hl0
  iintro ⟨HT, HP0, Hf0⟩
  iapply (wp_first a b K c Q 1 _) $$ [HT HP1 HS1 Hk1 Hl1]
  · isplitr [HT]
    · isplitl [HP1]; · iexact HP1
      isplitl [HS1]; · iexact HS1
      isplitl [Hk1]; · iexact Hk1
      iexact Hl1
    iexact HT
  iintro ⟨⟨HP1, Hf1⟩, HT⟩
  iapply (wp_first a b K c Q 2 _) $$ [HT HP2 HS2 Hk2 Hl2]
  · isplitr [HT]
    · isplitl [HP2]; · iexact HP2
      isplitl [HS2]; · iexact HS2
      isplitl [Hk2]; · iexact Hk2
      iexact Hl2
    iexact HT
  iintro ⟨⟨HP2, Hf2⟩, HT⟩
  iapply (wp_first a b K c Q 3 _) $$ [HT HP3 HS3 Hk3 Hl3]
  · isplitr [HT]
    · isplitl [HP3]; · iexact HP3
      isplitl [HS3]; · iexact HS3
      isplitl [Hk3]; · iexact Hk3
      iexact Hl3
    iexact HT
  iintro ⟨⟨HP3, Hf3⟩, HT⟩
  iapply (wp_first a b K c Q 4 _) $$ [HT HP4 HS4 Hk4 Hl4]
  · isplitr [HT]
    · isplitl [HP4]; · iexact HP4
      isplitl [HS4]; · iexact HS4
      isplitl [Hk4]; · iexact Hk4
      iexact Hl4
    iexact HT
  iintro ⟨⟨HP4, Hf4⟩, HT⟩
  iapply (wp_first a b K c Q 5 _) $$ [HT HP5 HS5 Hk5 Hl5]
  · isplitr [HT]
    · isplitl [HP5]; · iexact HP5
      isplitl [HS5]; · iexact HS5
      isplitl [Hk5]; · iexact Hk5
      iexact Hl5
    iexact HT
  iintro ⟨⟨HP5, Hf5⟩, HT⟩
  iapply HQ
  isplitl [HT]; · iexact HT
  isplitl [Hz]; · iexact Hz
  isplitl [HP0 HP1 HP2 HP3 HP4 HP5]
  · isplitl [HP0]; · iexact HP0
    isplitl [HP1]; · iexact HP1
    isplitl [HP2]; · iexact HP2
    isplitl [HP3]; · iexact HP3
    isplitl [HP4]; · iexact HP4
    iexact HP5
  isplitl [Hf0 Hf1 Hf2 Hf3 Hf4 Hf5]
  · isplitl [Hf0]; · iexact Hf0
    isplitl [Hf1]; · iexact Hf1
    isplitl [Hf2]; · iexact Hf2
    isplitl [Hf3]; · iexact Hf3
    isplitl [Hf4]; · iexact Hf4
    iexact Hf5
  isplitl [HL1]; · iexact HL1
  isplitl [HL2]; · iexact HL2
  isplitl [HL3]; · iexact HL3
  iexact HL4

end Cert.KernelIdeal.Hand
-- ==== Proof.Sound.lean ====
/- The body from its first operation to its last. -/
module

public import proofs.«01_k».proof.Proof.Whole

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

variable (a : Dev nD → Vec F S1536x768 .f32) (b : Dev nD → Vec F S768x1536 .f32)
variable (K : Dev nD × CI → ℕ) (c : Dev nD) (Q : PUnit.{1} → sProp (MT nD τ sig Unit (Elt F) ℕ UU ℕ))

/-! ## The rounds, for all parts -/

theorem keeps (k : PR F) : iprop(all (fun p => anyP (F := F) c (keepR p c) 128) ∗ thr a b K c 6)
    ⊢ iprop(((all (fun p => ptP c (rows (keepR p c) 128) fullShare (sm a b 0 c)) ∗ thr a b K c 6) -∗ wpc c k Q) -∗ wpc c (each keep c k) Q) :=
  wp_each c Q keep _ _ (fun _ => thr a b K c 6) (fun p k => wp_keep a b K c Q p k 6) k

theorem rounds0 (k : PR F) : iprop(all (fun p => pre0 a b c p) ∗ thr a b K c 6)
    ⊢ iprop(((all (fun p => post0 a b c p) ∗ thr a b K c 12) -∗ wpc c k Q) -∗ wpc c (each round0 c k) Q) :=
  wp_each c Q round0 _ _ (fun n => thr a b K c (6 + n)) (fun p k => wp_round0 a b K c Q p k) k
theorem rounds1 (k : PR F) : iprop(all (fun p => pre1 a b c p) ∗ thr a b K c 12)
    ⊢ iprop(((all (fun p => post1 a b c p) ∗ thr a b K c 18) -∗ wpc c k Q) -∗ wpc c (each round1 c k) Q) :=
  wp_each c Q round1 _ _ (fun n => thr a b K c (12 + n)) (fun p k => wp_round1 a b K c Q p k) k
theorem rounds2 (k : PR F) : iprop(all (fun p => pre2 a b c p) ∗ thr a b K c 18)
    ⊢ iprop(((all (fun p => post2 a b c p) ∗ thr a b K c 24) -∗ wpc c k Q) -∗ wpc c (each round2 c k) Q) :=
  wp_each c Q round2 _ _ (fun n => thr a b K c (18 + n)) (fun p k => wp_round2 a b K c Q p k) k
theorem rounds3 (k : PR F) : iprop(all (fun p => pre3 (F := F) c p) ∗ thr a b K c 24)
    ⊢ iprop(((all (fun p => post3 a b c p) ∗ thr a b K c 30) -∗ wpc c k Q) -∗ wpc c (each round3 c k) Q) :=
  wp_each c Q round3 _ _ (fun n => thr a b K c (24 + n)) (fun p k => wp_round3 a b K c Q p k) k
theorem rounds4 (k : PR F) : iprop(all (fun p => pre4 a b c p) ∗ thr a b K c 30)
    ⊢ iprop(((all (fun p => post4 a b c p) ∗ thr a b K c 30) -∗ wpc c k Q) -∗ wpc c (each round4 c k) Q) :=
  wp_each c Q round4 _ _ (fun _ => thr a b K c 30) (fun p k => wp_round4 a b K c Q p k 30 le_rfl) k

/-! ## The whole body -/

/-- The protocol's part of what a device starts with: the cells, its place at its barrier and the barrier's units, a token of each neighbour's barrier, and what each exchange needs. -/
def hand : sProp 𝕄 :=
  iprop(ctx a b K ∗ atPos ER (barCell c) 0 ∅ 0 ∗ cred (tallyAt (barCell c) () 3)
    ∗ (dutyTok ER (barCell (flip 0 c)) 0 0 ∗ dutyTok ER (barCell (flip 1 c)) 0 1 ∗ dutyTok ER (barCell (flip 2 c)) 0 2)
    ∗ bigSep Finset.univ (fun x : X => kit (F := F) x c))

/-- The call's scratch buffers, holding anything. -/
def scratch : sProp 𝕄 :=
  iprop((∃ f, ptA (F := F) c fullShare f) ∗ (∃ f, ptB (F := F) c fullShare f)
    ∗ RP (F := F) c Finset.univ ∗ RStage (F := F) c Finset.univ ∗ RScr (F := F) c Finset.univ ∗ RAg (F := F) c Finset.univ)

/-- The semaphores back at zero. -/
def zeros : sProp 𝕄 := iprop(semVal (barCell c) 0 ∗ bigSep Finset.univ (fun x : X => zero (F := F) x c))

set_option maxHeartbeats 1600000 in
theorem wp_rest :
    iprop(hand a b K c ∗ (∃ W, owes (c : Thread nD τ) (O₀ c) W) ∗ ptX c (a c) ∗ ptY c (b c) ∗ scratch (F := F) c ∗ ROut (F := F) c Finset.univ)
      ⊢ iprop(((zeros (F := F) c ∗ (∃ W, owes (c : Thread nD τ) 0 W) ∗ ptX c (a c) ∗ ptY c (b c) ∗ scratch (F := F) c ∗ ptOut c Finset.univ fullShare (res a b c)) -∗ Q ⟨⟩)
          -∗ wpc c (rest c) Q) := by
  show _ ⊢ iprop(_ -∗ wpc c (signals c <| casts <| firsts c <| each keep c <| each round0 c <| each round1 c <| each round2 c <| each round3 c <| each round4 c <| .ret ⟨⟩) Q)
  unfold hand scratch zeros
  iintro ⟨⟨#Hctx, Hat, Hcr, Ht, Hkits⟩, HO, HX, HY, ⟨⟨%f, HA⟩, ⟨%f', HB⟩, HP, HSt, HSc, HAg⟩, HOut⟩ HQ
  ihave Hl := (landings c) $$ [HSc HAg]
  · isplitl [HSc]; · iexact HSc
    iexact HAg
  icases Hl with ⟨Hland, HAgOwn⟩
  iapply (wp_signals a b K c Q _) $$ [HO Ht Hland]
  · isplitr; · iexact Hctx
    isplitl [HO]; · iexact HO
    isplitl [Ht]; · iexact Ht
    iexact Hland
  iintro HO
  iapply (wp_casts c a b Q f f' _) $$ [HX HY HA HB]
  · isplitl [HX]; · iexact HX
    isplitl [HY]; · iexact HY
    isplitl [HA]; · iexact HA
    iexact HB
  iintro ⟨HX, HY, HA, HB⟩
  ihave HP := ((splits_P c).halves c) $$ HP
  icases HP with ⟨HPs, HPk⟩
  ihave HSt := ((splits_Stage c).areas c) $$ HSt
  icases HSt with ⟨HSt0, HSt1, HSt2⟩
  ihave HOut := ((splits_Out c).thirds c) $$ HOut
  icases HOut with ⟨HOs, HOs1, HOo⟩
  ihave Hkits := (Entails.of_eq (by_exchange fun x : X => kit (F := F) x c)) $$ Hkits
  icases Hkits with ⟨Hk0, Hk1, Hk2, Hk3, Hk4⟩
  iapply (wp_firsts a b K c Q _) $$ [HA HB HO Hcr Hat HPs HSt0 Hk0]
  · isplitl [HA HB HO]
    · unfold thr
      isplitr; · iexact Hctx
      isplitl [HA]; · iexact HA
      isplitl [HB]; · iexact HB
      iexact HO
    isplitl [Hcr]; · iexact Hcr
    isplitl [Hat]; · iexact Hat
    isplitl [HPs]; · iexact HPs
    isplitl [HSt0]; · iexact HSt0
    iexact Hk0
  iintro ⟨HT, Hbar, HPs, Hf, HL1, HL2, HL3, HL4⟩
  iapply (keeps a b K c Q _) $$ [HPk HT]
  · isplitl [HPk]; · iexact HPk
    iexact HT
  iintro ⟨HPk, HT⟩
  iapply (rounds0 a b K c Q _) $$ [HT Hf HPk HSt1 Hk1 HL1]
  · isplitr [HT]
    · unfold all pre0 outSet
      simp only [bigSep_sep']
      isplitl [Hf]; · iexact Hf
      isplitl [HPk]; · iexact HPk
      isplitl [HSt1]; · iexact HSt1
      isplitl [Hk1]; · iexact Hk1
      iexact HL1
    iexact HT
  unfold all post0 outDone
  simp only [bigSep_sep']
  iintro ⟨⟨⟨HPs1, Hz0, HSt0, HSc0⟩, Hf, HPo⟩, HT⟩
  iapply (rounds1 a b K c Q _) $$ [HT Hf HPo HSt2 Hk2 HL2]
  · isplitr [HT]
    · unfold all pre1 outSet
      simp only [bigSep_sep']
      isplitl [Hf]; · iexact Hf
      isplitl [HPo]; · iexact HPo
      isplitl [HSt2]; · iexact HSt2
      isplitl [Hk2]; · iexact Hk2
      iexact HL2
    iexact HT
  unfold all post1 outDone
  simp only [bigSep_sep']
  iintro ⟨⟨⟨Hz1, HSt1, HSc1⟩, Hf, HPo⟩, HT⟩
  iapply (rounds2 a b K c Q _) $$ [HT Hf HPo HOo HAgOwn Hk3 HL3]
  · isplitr [HT]
    · unfold all pre2
      simp only [bigSep_sep']
      isplitl [Hf]; · iexact Hf
      isplitl [HPo]; · iexact HPo
      isplitl [HOo]; · iexact HOo
      isplitl [HAgOwn]; · iexact HAgOwn
      isplitl [Hk3]; · iexact Hk3
      iexact HL3
    iexact HT
  unfold all post2 outDone
  simp only [bigSep_sep']
  iintro ⟨⟨⟨⟨Hz2, HSt2, HSc2⟩, HPo, HOo⟩, Hf⟩, HT⟩
  iapply (rounds3 a b K c Q _) $$ [HT Hf HOs1 Hk4 HL4]
  · isplitr [HT]
    · unfold all pre3
      simp only [bigSep_sep']
      isplitl [Hf]; · iexact Hf
      isplitl [HOs1]; · iexact HOs1
      isplitl [Hk4]; · iexact Hk4
      iexact HL4
    iexact HT
  unfold all post3
  simp only [bigSep_sep']
  iintro ⟨⟨⟨Hz3, HOs1⟩, Hf, HAgk⟩, HT⟩
  iapply (rounds4 a b K c Q _) $$ [HT Hf HAgk HOs]
  · isplitr [HT]
    · unfold all pre4
      simp only [bigSep_sep']
      isplitl [Hf]; · iexact Hf
      isplitl [HAgk]; · iexact HAgk
      iexact HOs
    iexact HT
  unfold all post4
  simp only [bigSep_sep']
  iintro ⟨⟨Hz4, HOs, HAgk, HAgs⟩, HT⟩
  unfold thr
  icases HT with ⟨-, HA, HB, HO⟩
  unfold wpc
  rw [wp_ret]; imodintro
  iapply HQ
  isplitl [Hbar Hz0 Hz1 Hz2 Hz3 Hz4]
  · isplitl [Hbar]; · iexact Hbar
    rw [by_exchange]
    isplitl [Hz0]; · iexact Hz0
    isplitl [Hz1]; · iexact Hz1
    isplitl [Hz2]; · iexact Hz2
    isplitl [Hz3]; · iexact Hz3
    iexact Hz4
  isplitl [HO]
  · unfold Ow; rw [Debt_end]; iexact HO
  isplitl [HX]; · iexact HX
  isplitl [HY]; · iexact HY
  isplitr [HOs HOs1 HOo]
  · isplitl [HA]; · iexists _; iexact HA
    isplitl [HB]; · iexists _; iexact HB
    isplitl [HPs HPs1 HPo]
    · iapply ((joins_P c).thirds c)
      isplitl [HPs]; · iexact HPs
      isplitl [HPs1]; · iexact HPs1
      iexact HPo
    isplitl [HSt0 HSt1 HSt2]
    · iapply ((joins_Stage c).areas c)
      isplitl [HSt0]; · iexact HSt0
      isplitl [HSt1]; · iexact HSt1
      iexact HSt2
    isplitl [HSc0 HSc1 HSc2]
    · iapply ((joins_Scr c).areas c)
      isplitl [HSc0]; · iexact HSc0
      isplitl [HSc1]; · iexact HSc1
      iexact HSc2
    iapply ((joins_Ag c).halves c)
    isplitl [HAgs]; · iexact HAgs
    iexact HAgk
  iapply ((joins_res c (res a b c)).thirds c)
  isplitl [HOs]; · iexact HOs
  isplitl [HOs1]; · iexact HOs1
  iexact HOo

end Cert.KernelIdeal.Hand
-- ==== Proof.Obligation.lean ====
/- The call's data and its body obligation. -/
module

public import proofs.«01_k».proof.Proof.Sound
public import Idealize.ShloMosaic.Lib.Pipeline.FrameBody

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

variable (m : (ℓ : Loc nD τ sig) → Buf (Elt F) ℓ) (ρ : Dev nD → PrngReg)

/-- The state every device starts in. -/
def s₀ : MemSt nD τ sig (Elt F) := ⟨m, fun _ => 0, ρ⟩

/-- The two factors' blocks a device starts with, as its body sees them. -/
def facA (c : Dev nD) : Vec F S1536x768 .f32 := (win0_0.blk (0 : Fin 1)).view.read (Elt F) ((s₀ m ρ).mem ((c : Thread nD τ).loc main_arg0))
def facB (c : Dev nD) : Vec F S768x1536 .f32 := (win0_1.blk (0 : Fin 1)).view.read (Elt F) ((s₀ m ρ).mem ((c : Thread nD τ).loc main_arg1))

/-- What the body of device `c` starts with, -/
def start (c : Dev nD) : sProp 𝕄 := iprop(∃ K, hand (facA m ρ) (facB m ρ) K c)
def Φ₀ (c : Dev nD) : sProp 𝕄 := iprop(start m ρ c ∗ scratch (F := F) c)
/-- and leaves. -/
def Φ₁ (c : Dev nD) : sProp 𝕄 := iprop(scratch (F := F) c ∗ zeros (F := F) c)

/-- The call's one point: the factors come in, the result goes out, what is owed is paid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => facA m ρ c
    | ⟨1, _⟩ => facB m ρ c
    | ⟨2, _⟩ => res (facA m ρ) (facB m ρ) c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_buffer (c : Dev nD) (r : Ref sig .tc) (V : r.ty.Contents (Elt F)) :
    (owns (Ix := Unit) (Name := ℕ) (U := UU) (Lvl := ℕ) (c : Thread nD τ) (Memref.whole r) fullShare V : sProp 𝕄)
      = iprop(∃ f : Buf (Elt F) ((c : Thread nD τ).loc r), ⌜f = V⌝ ∗ (((c : Thread nD τ).loc r) ↦{fullShare} f)) := by
  unfold owns; simp only [Memref.view_whole, View.read_whole, View.set_whole]

/-- A staging buffer holding `V`. -/
abbrev stg (c : Dev nD) (r : Ref sig .tc) (V : r.ty.Contents (Elt F)) : sProp 𝕄 :=
  iprop(∃ f : Buf (Elt F) ((c : Thread nD τ).loc r), ⌜f = V⌝ ∗ (((c : Thread nD τ).loc r) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (facA m ρ c) ∗ stg c cc0_stg1_0 (facB m ρ c)
    ∗ stg c cc0_stg2_0 (res (facA m ρ) (facB m ρ) c))

theorem sound (c : Dev nD) : bodyPre m ρ c ⊢ wpc c (bodyAt0 (F := F) t0_0) (fun _ => bodyPost m ρ c) := by
  rw [body_eq]
  unfold bodyPre Φ₀ start wpc
  simp only [wp_deviceId]
  iintro ⟨⟨⟨%K, Hh⟩, Hs⟩, Ho, ⟨%d0, %g0, %hg0, HX⟩, ⟨%d1, %g1, %hg1, HY⟩, ⟨%d2, %g2, %hg2, HZ⟩⟩
  have hx : g0 = facA m ρ c := by rw [hg0]; unfold Dat.before; rw [if_pos (fetch0_0 t0_0)]; rfl
  have hy : g1 = facB m ρ c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = O₀ c from rfl]
  iapply (wp_rest (facA m ρ) (facB m ρ) K c fun _ => bodyPost m ρ c) $$ [Hh HO HX HY Hs HZ]
  · isplitl [Hh]; · iexact Hh
    isplitl [HO]; · iexists W; iexact HO
    isplitl [HX]; · unfold ptX; iexact HX
    isplitl [HY]; · unfold ptY; iexact HY
    isplitl [Hs]; · iexact Hs
    unfold ROut ptOut
    iexists g2; iexact HZ
  iintro ⟨Hz, ⟨%W', HO⟩, HX, HY, Hs, HZ⟩
  unfold bodyPost Φ₁ Dat.owesAt Pipeline.owesWithin ptX ptY ptOut
  rw [show (dats m ρ 0 c).owed t0_0.succ = 0 from rfl]
  isplitl [Hz Hs]
  · isplitl [Hs]; · iexact Hs
    iexact Hz
  isplitl [HO]
  · iexists W'
    isplitr; · ipureintro; exact fun _ _ => Or.inl trivial
    iexact HO
  isplitl [HX]
  · iexists _; isplitr; · (ipureintro; rfl)
    iexact HX
  isplitl [HY]
  · iexists _; isplitr; · (ipureintro; rfl)
    iexact HY
  iexists _; isplitr; · (ipureintro; rfl)
  iexact HZ

/-- The body table's row at the call's point. -/
theorem row (t : Fin cfg0.N) : defs₀ (F := F) .tc cfg0.body (cfg0.bodyArgs t (cfg0.slots t)) = bodyAt0 t := by
  unfold defs₀; rw [Defs.onTc_tc]

/-- The body obligation of device `c`. -/
theorem body_obligation (c : Dev nD) : BodyObligation (dats (F := F) m ρ 0 c) (defs₀ (F := F)) 𝒱₀ () Set.univ := fun t => by
  rw [row, fin_N0 t]
  rw [bigSep_W0, bigSep_W0]
  simp only [owns_buffer]
  refine triple_restated (sound m ρ c) ?_ ?_ fun _ => ?_
  · rfl
  · exact .rfl
  · exact .rfl

end Cert.KernelIdeal.Hand
-- ==== Proof.Deal.lean ====
/- The launch: the cells and their tokens dealt to the devices, and the run. -/
module

public import proofs.«01_k».proof.Proof.Obligation

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

/-! ## Cells and tokens -/

theorem csem_injective : Function.Injective csem := by
  have hsr {x y : X} (h : SemLoc.dma (sendSem x) = SemLoc.dma (sendSem y)) : x = y := by
    have h' := congrArg kind (congrArg Fin.val (SemLoc.dma.inj h))
    rw [kind_send, kind_send] at h'; exact congrArg Prod.snd (Option.some.inj h')
  have hrr {x y : X} (h : SemLoc.dma (recvSem x) = SemLoc.dma (recvSem y)) : x = y := by
    have h' := congrArg kind (congrArg Fin.val (SemLoc.dma.inj h))
    rw [kind_recv, kind_recv] at h'; exact congrArg Prod.snd (Option.some.inj h')
  have hne {x y : X} (h : SemLoc.dma (sendSem x) = SemLoc.dma (recvSem y)) : False := by
    have h' := congrArg kind (congrArg Fin.val (SemLoc.dma.inj h))
    rw [kind_send, kind_recv] at h'; exact Bool.noConfusion (congrArg Prod.fst (Option.some.inj h'))
  rintro (_ | ⟨_ | _, x⟩) (_ | ⟨_ | _, y⟩) h
  · rfl
  · cases h
  · cases h
  · cases h
  · rw [hsr h]
  · exact (hne h).elim
  · cases h
  · exact (hne h.symm).elim
  · rw [hrr h]

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

def xCells : Finset (GSem nD τ sig) := Finset.univ.map ⟨kcell, kcell_injective⟩

/-- The tokens minted for a device's own cells: its barrier's, one per link, and one for each exchange's two cells. -/
abbrev tokOf (t : Dev nD × (Fin 3 ⊕ (Bool × X))) : GSem nD τ sig × ℕ × Fin 3 := match t.2 with
  | .inl j => (barCell t.1, 0, j)
  | .inr y => (kcell (t.1, some y), 0, 0)

theorem tokOf_injective : Function.Injective tokOf := by
  rintro ⟨c, j⟩ ⟨c', j'⟩ h
  rcases j with j | y <;> rcases j' with j' | y'
  · have h1 : kcell (c, none) = kcell (c', none) := congrArg Prod.fst h
    have h2 : j = j' := congrArg (fun t : GSem nD τ sig × ℕ × Fin 3 => t.2.2) h
    rw [show c = c' from congrArg Prod.fst (kcell_injective h1), h2]
  · have h1 : kcell (c, none) = kcell (c', some y') := congrArg Prod.fst h
    exact absurd (congrArg Prod.snd (kcell_injective h1)) (by simp)
  · have h1 : kcell (c, some y) = kcell (c', none) := congrArg Prod.fst h
    exact absurd (congrArg Prod.snd (kcell_injective h1)) (by simp)
  · have h1 : kcell (c, some y) = kcell (c', some y') := congrArg Prod.fst h
    have h2 := kcell_injective h1
    rw [show c = c' from congrArg Prod.fst h2, Option.some.inj (congrArg Prod.snd h2)]

def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- Something per cell of a device: at its barrier, at the departures and at the arrivals. -/
theorem by_cell (Φ : CI → sProp 𝕄) : bigSep Finset.univ Φ = iprop(Φ none ∗ bigSep Finset.univ (fun y : Bool × X => Φ (some y))) := by
  rw [BI.bigSep_univ_at _ (none : CI), show (Finset.univ : Finset CI).erase none = Finset.univ.map Function.Embedding.some from by
    ext k; cases k <;> simp, bigSep_map]
  rfl
theorem by_end (Φ : Bool × X → sProp 𝕄) :
    bigSep Finset.univ Φ = iprop(bigSep Finset.univ (fun x => Φ (false, x)) ∗ bigSep Finset.univ (fun x => Φ (true, x))) := by
  rw [bigSep_univ_prod, bigSep_univ_eq_bigSepL [false, true] (by decide) (by decide), bigSepL_cons_cons, bigSepL_singleton]
  rfl

variable (a : Dev nD → Vec F S1536x768 .f32) (b : Dev nD → Vec F S768x1536 .f32)

/-- The tokens of a device's own cells, -/
def toks (c : Dev nD) : sProp 𝕄 :=
  iprop(bigSep Finset.univ (fun j : Fin 3 => dutyTok ER (barCell c) 0 j) ∗ bigSep Finset.univ (fun y : Bool × X => dutyTok ER (kcell (c, some y)) 0 0))
/-- and those of the duties it pays. -/
def payToks (c : Dev nD) : sProp 𝕄 :=
  iprop(bigSep Finset.univ (fun j : Fin 3 => dutyTok ER (barCell (flip j c)) 0 j)
    ∗ bigSep Finset.univ (fun x : X => dutyTok ER (sendCell x c) 0 0) ∗ bigSep Finset.univ (fun x : X => dutyTok ER (recvCell x (prx x c)) 0 0))

/-- What each device is dealt at launch. -/
def G (c : Dev nD) : sProp 𝕄 :=
  iprop((bigSep Finset.univ fun k : CI => roundState ER (Rd a b) (kcell (c, k)) 0)
    ∗ (bigSep Finset.univ fun k : CI => iprop(atPos ER (kcell (c, k)) 0 ∅ 0 ∗ reached ER (kcell (c, k)) 0)) ∗ toks (F := F) c)

/-- What stays with a device: its places at its cells and the tokens it pays with. -/
def own (c : Dev nD) : sProp 𝕄 := iprop((bigSep Finset.univ fun k : CI => atPos ER (kcell (c, k)) 0 ∅ 0) ∗ payToks (F := F) c)
def G' (c : Dev nD) : sProp 𝕄 := iprop(∃ K, recs a b K ∗ own (F := F) c)

theorem fund_cells : BI.own (ER (initOf xCells xToks)) ⊢ (|==> bigSep Finset.univ (G a b) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun t => (dutyTok ER t.1 t.2.1 t.2.2 : sProp 𝕄)) = bigSep Finset.univ fun c : Dev nD => toks (F := F) c := by
    unfold xToks; rw [bigSep_map, bigSep_univ_prod]
    exact bigSep_congr fun c _ => by unfold toks; rw [bigSep_univ_sum]; rfl
  iintro H
  imod (Rounds.fund ER (Rd a b) xCells xToks) $$ H with ⟨Hst, Hr, Hat, Ht⟩
  imodintro
  ihave Hst := (Entails.of_eq (hX fun g => roundState ER (Rd a b) g 0)) $$ Hst
  ihave Hat := (Entails.of_eq (hX fun g => atPos ER g 0 ∅ 0)) $$ Hat
  ihave Hr := (Entails.of_eq (hX fun g => reached ER g 0)) $$ Hr
  ihave Ht := (Entails.of_eq hT) $$ Ht
  unfold G; simp only [bigSep_sep']
  isplitl [Hst]; · iexact Hst
  isplitl [Hat Hr]
  · isplitl [Hat] <;> iassumption
  iexact Ht

/-! ## The counters at launch -/

theorem unscoped_bar (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [by_cell, unscoped_bar]
  unfold Pipeline.ownSems0
  iintro ⟨H, HB⟩
  isplitl [HB]; · iexact HB
  iexact H

theorem alloc (c : Dev nD) :
    iprop(Pipeline.ownSems0 (Ix := Unit) (Name := ℕ) (U := UU) (Lvl := ℕ) (Val := Elt F) (τ := τ) osem c ∗ unscopedSems0 c ∗ G a b c)
      ⊢ |={Set.univ}=> iprop((bigSep Finset.univ fun k : CI => iprop(∃ κ : ℕ, cellInv ER (Rd a b) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Ht⟩
  ihave Hv := (sems0 (F := F) c) $$ [Hos Hus]
  · isplitl [Hos] <;> iassumption
  imod (show iprop((bigSep Finset.univ fun k : CI => semVal (kcell (c, k)) 0) ∗ bigSep Finset.univ fun k : CI => roundState ER (Rd a b) (kcell (c, k)) 0)
      ⊢ (|={Set.univ}=> bigSep Finset.univ fun k : CI => iprop(∃ κ : ℕ, cellInv ER (Rd a b) κ (kcell (c, k))) : sProp 𝕄) from by
        rw [← bigSep_sep']
        exact (bigSep_mono fun k _ => (Rounds.body_intro ER (Rd a b) (kcell (c, k))).trans inv_alloc).trans (bigSep_fupd _ _)) $$ [Hv Hst] with Hinv
  · isplitl [Hv] <;> iassumption
  imodintro
  isplitl [Hinv]; · iexact Hinv
  isplitl [Hat]; · iexact Hat
  iexact Ht

/-- Each token goes to the device that pays with it: across its link. -/
theorem toks_across : (bigSep Finset.univ fun c : Dev nD => toks (F := F) c) ⊢ bigSep Finset.univ fun c : Dev nD => payToks (F := F) c := by
  have hb : (bigSep Finset.univ fun c : Dev nD => bigSep Finset.univ fun j : Fin 3 => (dutyTok ER (barCell c) 0 j : sProp 𝕄))
      = bigSep Finset.univ fun c : Dev nD => bigSep Finset.univ fun j : Fin 3 => dutyTok ER (barCell (flip j c)) 0 j := by
    rw [bigSep_univ_comm, bigSep_univ_comm (fun (c : Dev nD) (j : Fin 3) => (dutyTok ER (barCell (flip j c)) 0 j : sProp 𝕄))]
    exact bigSep_congr fun j _ => bigSep_univ_equiv (Function.Involutive.toPerm (flip j) (flip_flip j)) _
  have hx : (bigSep Finset.univ fun c : Dev nD => bigSep Finset.univ fun x : X => (dutyTok ER (recvCell x c) 0 0 : sProp 𝕄))
      = bigSep Finset.univ fun c : Dev nD => bigSep Finset.univ fun x : X => dutyTok ER (recvCell x (prx x c)) 0 0 := by
    rw [bigSep_univ_comm, bigSep_univ_comm (fun (c : Dev nD) (x : X) => (dutyTok ER (recvCell x (prx x c)) 0 0 : sProp 𝕄))]
    exact bigSep_congr fun x _ => bigSep_univ_equiv (Function.Involutive.toPerm (prx x) (prx_prx x)) _
  have h : (bigSep Finset.univ fun c : Dev nD => toks (F := F) c) = bigSep Finset.univ fun c : Dev nD => payToks (F := F) c := by
    unfold toks payToks
    rw [bigSep_sep', bigSep_sep', bigSep_sep', ← hb, ← hx, ← bigSep_sep' Finset.univ (fun c : Dev nD => bigSep Finset.univ fun x : X => (dutyTok ER (sendCell x c) 0 0 : sProp 𝕄))]
    exact congrArg _ (bigSep_congr fun c _ => by_end _)
  exact Entails.of_eq h

theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt :
    (bigSep Finset.univ fun c : Dev nD => iprop((bigSep Finset.univ fun k : CI => iprop(∃ κ : ℕ, cellInv ER (Rd a b) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' a b) := by
  rw [bigSep_sep', bigSep_sep', ← bigSep_univ_prod (fun ck : Dev nD × CI => iprop(∃ κ : ℕ, cellInv ER (Rd a b) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Ht⟩
  ihave HK := (BI.bigSep_exists_pi Finset.univ (fun (ck : Dev nD × CI) (κ : ℕ) => (cellInv ER (Rd a b) κ (kcell ck) : sProp 𝕄))) $$ HI
  icases HK with ⟨%K, #HI⟩
  ihave Ht := (toks_across (F := F)) $$ Ht
  iapply (bigSep_knowing (R := recs a b K) (Φ := fun c => own (F := F) c) (Ψ := G' a b) fun c _ => by
    unfold G'; iintro ⟨H, H'⟩; iexists K; isplitl [H] <;> iassumption)
  isplitr
  · unfold recs; rw [bigSep_sep']
    isplitl; · iexact HI
    iexact HR
  · unfold own; rw [bigSep_sep']
    isplitl [Hat]; · iexact Hat
    iexact Ht

theorem glob : (bigSep Finset.univ fun c => iprop(Pipeline.ownSems0 (Ix := Unit) (Name := ℕ) (U := UU) (Lvl := ℕ) (Val := Elt F) (τ := τ) osem c ∗ unscopedSems0 c ∗ G a b c) : sProp 𝕄)
    ⊢ |={Set.univ}=> bigSep Finset.univ (G' a b) :=
  ((bigSep_mono fun c _ => alloc a b c).trans (bigSep_fupd _ _)).trans (BI.fupd_mono (dealt a b))

/-! ## The credits at launch -/

theorem bar_iff {c d : Dev nD} : barCell c = barCell d ↔ c = d :=
  ⟨fun h => congrArg (fun g : GSem nD τ sig => g.1.1) h, fun h => h ▸ rfl⟩
theorem recv_iff {x y : X} {c d : Dev nD} : recvCell x c = recvCell y d ↔ x = y ∧ c = d := by
  constructor
  · intro h
    have h' := kcell_injective (a₁ := (c, some (true, x))) (a₂ := (d, some (true, y))) h
    exact ⟨congrArg Prod.snd (Option.some.inj (congrArg Prod.snd h')), congrArg Prod.fst h'⟩
  · rintro ⟨rfl, rfl⟩; rfl
theorem recv_ne_bar (x : X) : SemLoc.dma (recvSem x) ≠ (.reg barS : SemLoc sig) := fun h => by cases h

theorem Debt_bar (d c : Dev nD) : Debt d 0 (barCell c) () = 0 := by
  by_contra h
  obtain ⟨x, -, hx⟩ := Debt_pos (Nat.pos_of_ne_zero h)
  exact recv_ne_bar x (congrArg Prod.snd hx).symm

theorem Debt_recv (d c : Dev nD) (x : X) : Debt d 0 (recvCell x c) () = if d = prx x c then N (cnt x.2) else 0 := by
  unfold Debt
  rw [Finset.sum_apply, Finsupp.finset_sum_apply, Finset.sum_eq_single x]
  · rw [tallyAt_apply]
    by_cases h : d = prx x c
    · subst h; rw [prx_prx, if_pos ⟨rfl, rfl⟩, if_pos rfl]
    · rw [if_neg h, if_neg fun h' => h (by rw [(recv_iff.mp h'.1).2, prx_prx])]
  · intro y _ hy
    rw [tallyAt_apply, if_neg fun h' => hy (recv_iff.mp h'.1).1.symm]
  · intro h; exact absurd (Finset.mem_filter.mpr ⟨Finset.mem_univ x, Nat.zero_le (place x)⟩) h

theorem one_bar (d c : Dev nD) (j : Fin 3) : tallyAt (barCell (flip j d)) () 1 (barCell c) () = if d = flip j c then 1 else 0 := by
  rw [tallyAt_apply]
  by_cases h : d = flip j c
  · subst h; rw [flip_flip, if_pos ⟨rfl, rfl⟩, if_pos rfl]
  · rw [if_neg h, if_neg fun h' => h (by rw [bar_iff.mp h'.1, flip_flip])]

theorem owed_bar (d c : Dev nD) :
    O₀ d (barCell c) () = (if d = flip 2 c then 1 else 0) + (if d = flip 1 c then 1 else 0) + (if d = flip 0 c then 1 else 0) := by
  unfold O₀ O₁ O₂
  rw [Pi.add_apply, Finsupp.add_apply, Pi.add_apply, Finsupp.add_apply, Pi.add_apply, Finsupp.add_apply, Debt_bar, one_bar, one_bar, one_bar, Nat.zero_add]

theorem owed_recv (d c : Dev nD) (x : X) : O₀ d (recvCell x c) () = if d = prx x c then N (cnt x.2) else 0 := by
  have h (j : Fin 3) : tallyAt (barCell (flip j d)) () 1 (recvCell x c) () = 0 := by
    rw [tallyAt_apply, if_neg fun h' => recv_ne_bar x (congrArg Prod.snd h'.1)]
  unfold O₀ O₁ O₂
  rw [Pi.add_apply, Finsupp.add_apply, Pi.add_apply, Finsupp.add_apply, Pi.add_apply, Finsupp.add_apply, h, h, h, Debt_recv]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]

theorem launch_recv (c : Dev nD) (x : X) :
    tallyOn (recvCell x c) (launchCredit (Pipeline.owing O₀) 0 (recvCell x c)) = (tallyAt (recvCell x c) () (N (cnt x.2)) : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq', if_pos (Finset.mem_univ _)]

theorem recvLoc_injective : Function.Injective fun x : X => (SemLoc.dma (recvSem x) : SemLoc sig) := fun x y h => by
  have := csem_injective (a₁ := some (true, x)) (a₂ := some (true, y)) h
  exact congrArg Prod.snd (Option.some.inj this)

theorem creds (c : Dev nD) :
    (Pipeline.launchCred O₀ c : sProp 𝕄) ⊢ iprop(cred (tallyAt (barCell c) () 3) ∗ bigSep Finset.univ fun x : X => cred (tallyAt (recvCell x c) () (N (cnt x.2)))) := by
  unfold Pipeline.launchCred
  rw [bigSep_univ_at _ (SemLoc.reg barS), launch_bar]
  refine sep_mono_right ?_
  refine BI.Entails.trans (bigSep_subset (t := Finset.univ.map ⟨_, recvLoc_injective⟩) ?_) ?_
  · intro s hs
    obtain ⟨x, -, rfl⟩ := Finset.mem_map.mp hs
    exact Finset.mem_erase.mpr ⟨recv_ne_bar x, Finset.mem_univ _⟩
  · rw [bigSep_map]
    exact Entails.of_eq (bigSep_congr fun x _ => by rw [← launch_recv]; rfl)

end Cert.KernelIdeal.Hand
-- ==== Proof.Launch.lean ====
/- The run of the kernel: what every device's arrays hold in the end. -/
module

public import proofs.«01_k».proof.Proof.Deal
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1536x768 .f32) (b : Dev nD → Vec F S768x1536 .f32)

/-! ## What an exchange hands over, buffer by buffer -/

variable (m : (ℓ : Loc nD τ sig) → Buf (Elt F) ℓ) (ρ : Dev nD → PrngReg)

theorem ownSemFacts : Pipeline.OwnSemFacts cfg0.spec osem where
  isScoped := by decide +kernel
  inj := fun y y' h => Option.some.inj (csem_injective (a₁ := some y) (a₂ := some y') h)
  disj := by decide +kernel

theorem share_full (c : Dev nD) (w : Fin cfg0.W) : (dats m ρ 0 c).share w = fullShare := by unfold Dat.share; split <;> rfl

/-! ## Into and out of the body -/

/-- What a device has of the launch is what its body starts with. -/
theorem start_intro (c : Dev nD) :
    iprop(Pipeline.unscopedRestP Pipeline.Prefetch.none cfg0.spec c (fun r => m ((c : Thread nD τ).loc r)) ∗ levAts L lv
        ∗ Pipeline.launchCred O₀ c ∗ prngReg c (ρ c) ∗ G' (facA m ρ) (facB m ρ) c)
      ⊢ |={Set.univ}=> iprop(start m ρ c ∗ emp) := by
  iintro ⟨-, #Hl, Hcr, -, HG⟩
  ihave Hc := (creds (F := F) c) $$ Hcr
  icases Hc with ⟨Hb, Hx⟩
  imodintro
  unfold start G' own hand kit ctx payToks
  simp only [bigSep_sep', by_cell, by_end, three]
  icases HG with ⟨%K, #Hr, ⟨Hab, Has, Har⟩, ⟨Ht0, Ht1, Ht2⟩, Hts, Htr⟩
  isplitl
  · iexists K
    isplitr
    · isplitr; · iexact Hr
      iexact Hl
    isplitl [Hab]; · iexact Hab
    isplitl [Hb]; · iexact Hb
    isplitl [Ht0 Ht1 Ht2]
    · isplitl [Ht0]; · iexact Ht0
      isplitl [Ht1]; · iexact Ht1
      iexact Ht2
    isplitl [Has]; · iexact Has
    isplitl [Har]; · iexact Har
    isplitl [Hts]; · iexact Hts
    isplitl [Htr]; · iexact Htr
    iexact Hx
  iempintro

theorem scratch_eq (c : Dev nD) : scratch (F := F) c = (Pipeline.scopedRest cfg0.spec c : sProp 𝕄) := (scopedRest0_eq c).symm

theorem body_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  rw [scratch_eq]
  iintro ⟨Hs, -, Hr⟩
  isplitl [Hs] <;> iassumption

theorem body_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, unscoped_bar]
  unfold Φ₁ zeros zero Pipeline.ownSems0
  rw [scratch_eq, bigSep_sep', by_end]
  iintro ⟨Hr, Hb, Hs, Hv⟩
  isplitl [Hb]; · iexact Hb
  isplitr [Hr]
  · isplitl [Hs]; · iexact Hs
    iexact Hv
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

set_option maxRecDepth 100000 in
/-- From any memory with zero counters the eight devices' kernels all end, whatever the order of their steps; every array then holds `finalA`, and every counter is zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G (facA m ρ) (facB m ρ)) (G' := G' (facA m ρ) (facB m ρ)) (u₀ := u₀)
    (hu₀ := by
      unfold u₀
      iintro Hu
      ihave H := (ownU_pair _ _) $$ Hu
      icases H with ⟨HP, HX⟩
      imod (fund_cells (facA m ρ) (facB m ρ)) $$ HX with HG
      imodintro
      isplitl [HP] <;> iassumption)
    (hglob := glob (facA m ρ) (facB m ρ))
    (hA := fun _ _ => rfl) (hpf := fun _ k => k.elim0)
    (X := start m ρ) (Y := fun c => unscopedSems0 c) (Z := fun _ => iprop(emp))
    (hX := start_intro m ρ) (hin := body_in m ρ) (hout := body_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The factors' arrays hold what they held, -/
theorem finalA_in0 (c : Dev nD) : finalA m ρ c (0 : Fin 3) = m ((c : Thread nD τ).loc main_arg0) := (dats (F := F) m ρ 0 c).arrAt_in (0 : Fin 3) rfl _
theorem finalA_in1 (c : Dev nD) : finalA m ρ c (1 : Fin 3) = m ((c : Thread nD τ).loc main_arg1) := (dats (F := F) m ρ 0 c).arrAt_in (1 : Fin 3) rfl _

end Cert.KernelIdeal.Hand
-- ==== Proof.Sums.lean ====
/- What the kernel leaves when arithmetic is exact: every device ends with the activation of the whole matrix product,
   the three exchanges having summed the eight partial products. -/
module

public import proofs.«01_k».proof.Proof.Contents
public import Idealize.ShloMosaic.Lib.MatmulPlain
public import Idealize.ShloMosaic.Lib.ValueIdx

@[expose] public section

noncomputable section

namespace Cert.KernelIdeal.Hand

open Idealize.ShloMosaic Idealize.ShloMosaic.TcCoe Idealize.SL.Sem Cert.KernelIdeal Cert.KernelIdeal.Gen
open Idealize.ShloMosaic.ValueIdx

/-! ## One element -/

/-- `z / (1 + exp (-z))`. -/
def act (z : EReal) : EReal := Ideal.div z (Ideal.ofBits .f32 0x3F800000#32 + Ideal.exp (-z))

theorem tr_eq (x : EReal) : tr (F := Ideal) x = x := by
  unfold tr payTr; rw [shapeCast_id]; rfl
theorem ex_eq (x : EReal) : ex (F := Ideal) x = x := rfl
theorem ad_eq (x y : EReal) : ad (F := Ideal) x y = x + y := by
  unfold ad payAdd; rw [shapeCast_id]; rfl
theorem ac_eq (x : EReal) : ac (F := Ideal) x = act x := by
  show Ideal.div x (Ideal.ofBits .f32 0x3F800000#32 + Ideal.exp (Ideal.ofBits .f32 0x00000000#32 - x)) = act x
  rw [Ideal.ofBits_zero_f32, sub_eq_add_neg, zero_add]; rfl

/-! ## A device's own product -/

variable (a : Dev nD → Vec Ideal S1536x768 .f32) (b : Dev nD → Vec Ideal S768x1536 .f32)

/-- The product of the blocks of device `d`. -/
def part (i : S1536x1536.Idx) (d : Dev nD) : EReal := ∑ k : Fin 768, a d (ValueIdx.ix2 (i 0) k) * b d (ValueIdx.ix2 k (i 1))

theorem prod0_eq (c : Dev nD) (i : S1536x1536.Idx) : prod0 a b c i = part a b i c := by
  unfold prod0 k0_pay4 k0_pay2 k0_pay3
  simp only [shapeCast_id]
  have hi : (i 0).val < 1536 := (i 0).isLt
  have e : ixB (i 0).val (i 1) = ValueIdx.ix2 ⟨(i 0).val % 128, Nat.mod_lt _ (by decide)⟩ (i 1) := ValueIdx.eq_ix2 _
  rw [e]
  refine (Ideal.matmul_plain_apply (M := 128) (K := 768) (N := 1536) none _ _ _ _ _).trans ?_
  show Ideal.ofBits .f32 0x00000000#32 + _ = _
  rw [Ideal.ofBits_zero_f32, zero_add]
  unfold part
  refine Finset.sum_congr rfl fun k _ => ?_
  show a c (ixA (128 * ((i 0).val / 128) + (i 0).val % 128) k) * b c (ValueIdx.ix2 k (i 1)) = _
  have : ixA (128 * ((i 0).val / 128) + (i 0).val % 128) k = ValueIdx.ix2 (i 0) k := by
    funext x
    match x with
    | 0 => apply Fin.ext; show (128 * ((i 0).val / 128) + (i 0).val % 128) % 1536 = (i 0).val; omega
    | 1 => rfl
  exact congrArg (a c · * _) this

/-! ## The three exchanges -/

theorem all_devices : ∀ (p : Fin 6) (c : Dev nD),
    (List.finRange 8).Perm [c, peer p 0 c, peer p 1 c, peer p 0 (peer p 1 c), peer p 2 c, peer p 0 (peer p 2 c),
      peer p 1 (peer p 2 c), peer p 0 (peer p 1 (peer p 2 c))] := by decide +kernel

/-- After three exchanges a device holds the sum over all devices. -/
theorem sm_eq (c : Dev nD) (i : S1536x1536.Idx) : sm a b 3 c i = ∑ d : Dev nD, part a b i d := by
  have h1 (c : Dev nD) : sm a b 1 c i = part a b i c + part a b i (peer (partOf i) 0 c) := by
    show ad (F := Ideal) (prod0 a b c i) (tr (F := Ideal) (prod0 a b (peer (partOf i) (step 0) c) i)) = _
    rw [tr_eq, ad_eq, prod0_eq, prod0_eq]; rfl
  have h2 (c : Dev nD) : sm a b 2 c i = sm a b 1 c i + sm a b 1 (peer (partOf i) 1 c) i := by
    show ad (F := Ideal) (sm a b 1 c i) (tr (F := Ideal) (sm a b 1 (peer (partOf i) (step 1) c) i)) = _
    rw [tr_eq, ad_eq]; rfl
  have h3 (c : Dev nD) : sm a b 3 c i = sm a b 2 c i + sm a b 2 (peer (partOf i) 2 c) i := by
    show ad (F := Ideal) (sm a b 2 c i) (tr (F := Ideal) (sm a b 2 (peer (partOf i) (step 2) c) i)) = _
    rw [tr_eq, ad_eq]; rfl
  rw [h3, h2, h2, h1, h1, h1, h1]
  have hp := ((all_devices (partOf i) c).map (part a b i)).sum_eq
  rw [← List.ofFn_eq_map, List.sum_ofFn] at hp
  refine Eq.trans ?_ hp.symm
  simp only [List.map_cons, List.map_nil, List.sum_cons, List.sum_nil, add_zero, add_assoc]

/-- The result, the same on every device. -/
theorem res_eq (c : Dev nD) (i : S1536x1536.Idx) : res a b c i = act (∑ d : Dev nD, part a b i d) := by
  unfold res
  split
  · rw [ac_eq, sm_eq]
  · rw [ex_eq]; unfold gat; rw [tr_eq, ac_eq, sm_eq]

/-! ## The whole product -/

/-- With the factors cut among the devices along the contracted axis, the sum of the devices' products is the product
    of the whole factors. -/
theorem part_sum (A : (⟨2, ![1536, 6144]⟩ : Shape).Idx → EReal) (B : (⟨2, ![6144, 1536]⟩ : Shape).Idx → EReal)
    (ha : ∀ c : Dev nD, a c = Layout.block ⟨2, ![1536, 768]⟩ ⟨2, ![1536, 6144]⟩ 1 8 c A)
    (hb : ∀ c : Dev nD, b c = Layout.block ⟨2, ![768, 1536]⟩ ⟨2, ![6144, 1536]⟩ 0 8 c B) (i : S1536x1536.Idx) :
    ∑ d : Dev nD, part a b i d = ∑ k : Fin 6144, A (ValueIdx.ix2 (i 0) k) * B (ValueIdx.ix2 k (i 1)) := by
  rw [← Equiv.sum_comp (finProdFinEquiv (m := 8) (n := 768)) (fun k : Fin 6144 => A (ValueIdx.ix2 (i 0) k) * B (ValueIdx.ix2 k (i 1))), Fintype.sum_prod_type]
  refine Finset.sum_congr rfl fun d _ => ?_
  unfold part
  refine Finset.sum_congr rfl fun k _ => ?_
  rw [ha, hb, Layout.block_apply, Layout.block_apply]
  congr 2
  · funext x
    match x with
    | 0 => exact Fin.ext rfl
    | 1 => apply Fin.ext; show d.val * 768 + k.val = k.val + 768 * d.val; omega
  · funext x
    match x with
    | 0 => apply Fin.ext; show d.val * 768 + k.val = k.val + 768 * d.val; omega
    | 1 => exact Fin.ext rfl

end Cert.KernelIdeal.Hand

end
-- ==== Proof.Value.lean ====
/- What the devices' result arrays hold at the end, and, with exact arithmetic, what the reference computes: the same. -/
module

public import proofs.«01_k».proof.Proof.Launch
public import proofs.«01_k».proof.Proof.Sums
public import proofs.«01_k».proof.Proof.Gen.ReferenceIdeal.Run
public import Idealize.ShloMosaic.Lib.Pipeline.Value
public import Idealize.ShloMosaic.Lib.StackMember

@[expose] public section

noncomputable section

namespace Cert.KernelIdeal.Hand

open Cert.KernelIdeal Cert.KernelIdeal.Gen
open Idealize.ShloMosaic
open Idealize.ShloMosaic.TcCoe
open Idealize.SL.Sem

section Final

variable {F : FTy → Type} [FloatOps F]
variable (m : (ℓ : Loc nD τ sig) → Buf (Elt F) ℓ) (ρ : Dev nD → PrngReg)

/-- The factors each kernel works on are the arrays' contents, -/
theorem facA_eq (c : Dev nD) : facA m ρ c = m ((c : Thread nD τ).loc main_arg0) := by
  funext y
  show m ((c : Thread nD τ).loc main_arg0) ((win0_0.blk (0 : Fin 1)).view.emb y) = _
  refine congrArg (m ((c : Thread nD τ).loc main_arg0)) (funext fun x => Fin.ext ?_)
  exact Pipeline.Window.rect_emb_val_of_index_zero win0_0 (0 : Fin 1) x rfl y
theorem facB_eq (c : Dev nD) : facB m ρ c = m ((c : Thread nD τ).loc main_arg1) := by
  funext y
  show m ((c : Thread nD τ).loc main_arg1) ((win0_1.blk (0 : Fin 1)).view.emb y) = _
  refine congrArg (m ((c : Thread nD τ).loc main_arg1)) (funext fun x => Fin.ext ?_)
  exact Pipeline.Window.rect_emb_val_of_index_zero win0_1 (0 : Fin 1) x rfl y

theorem point_eq (t : Fin cfg0.N) : t = t0_0 := Fin.ext (by have : t.val < 1 := t.isLt; show t.val = 0; omega)

/-- and the result's array ends at the result. -/
theorem finalA_out (c : Dev nD) : finalA m ρ c (2 : Fin 3) = res (facA m ρ) (facB m ρ) c := by
  funext y
  have h := (dats (F := F) m ρ 0 c).arrAt_emb_eq_flushed (2 : Fin 3)
    (fun t t' _ _ h => absurd ((point_eq t).trans (point_eq t').symm) h) t0_0 (flush0_2 t0_0) y
  have e : ((cfg0.win (2 : Fin 3)).blk t0_0).view.emb y = y :=
    funext fun x => Fin.ext (Pipeline.Window.rect_emb_val_of_index_zero win0_2 (0 : Fin 1) x rfl y)
  rw [e] at h
  exact h

end Final

/-! ## The reference -/

/-- The reference's result, index by index. -/
theorem ref_eq (A : FVec Ideal Cert.ReferenceIdeal.S1536x6144 .f32) (B : FVec Ideal Cert.ReferenceIdeal.S6144x1536 .f32) (i : S1536x1536.Idx) :
    Host.divf (Host.dotGeneral Cert.ReferenceIdeal.dot_S1536x6144_S6144x1536_S1536x1536_1_0_0_1_n_n none A B)
      (addf (broadcastInDim Cert.ReferenceIdeal.S1536x1536 ![] Cert.ReferenceIdeal.Facts₀.bcast_S_S1536x1536 (constant Cert.ReferenceIdeal.S_ .f32 0x3F800000#32))
        (Host.exp (Host.negf (Host.dotGeneral Cert.ReferenceIdeal.dot_S1536x6144_S6144x1536_S1536x1536_1_0_0_1_n_n none A B)))) i
      = act (∑ k : Fin 6144, A (ValueIdx.ix2 (i 0) k) * B (ValueIdx.ix2 k (i 1))) := by
  have h : Host.dotGeneral Cert.ReferenceIdeal.dot_S1536x6144_S6144x1536_S1536x1536_1_0_0_1_n_n none A B i
      = ∑ k : Fin 6144, A (ValueIdx.ix2 (i 0) k) * B (ValueIdx.ix2 k (i 1)) :=
    (congrArg _ (ValueIdx.eq_ix2 i)).trans (StackMember.dotGeneral_plain_apply (m := 1536) (n := 1536) (k := 6144) none A B (i 0) (i 1))
  rw [← h]
  generalize Host.dotGeneral Cert.ReferenceIdeal.dot_S1536x6144_S6144x1536_S1536x1536_1_0_0_1_n_n none A B = z
  rfl

end Cert.KernelIdeal.Hand

end
-- ==== Proof.Same.lean ====
/- The program as it runs and the program as it is read in exact arithmetic have the same text. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The kernel's body is the same, -/
theorem body_eq : @Cert.Kernel.cc0_body F _ _ = @Cert.KernelIdeal.cc0_body F _ _ := rfl
/-- the table of bodies, -/
theorem defs₀_eq : Cert.Kernel.defs₀ (F := F) = Cert.KernelIdeal.defs₀ (F := F) := by
  unfold Cert.Kernel.defs₀ Cert.KernelIdeal.defs₀
  refine congrArg Defs.onTc (funext fun l => ?_)
  match l with
  | (0 : Fin 1) => rfl
/-- the pipeline, -/
theorem cfg_eq : Cert.Kernel.cfg0 = Cert.KernelIdeal.cfg0 := rfl
/-- the whole table, -/
theorem defs_eq : Cert.Kernel.defs (F := F) = Cert.KernelIdeal.defs (F := F) := by
  unfold Cert.Kernel.defs Cert.KernelIdeal.defs
  exact congrArg (Pipeline.defs (Cert.KernelIdeal.pcfgs (F := F))) defs₀_eq
/-- and the main function. -/
theorem main_eq : Cert.Kernel.main (F := F) = Cert.KernelIdeal.main (F := F) := rfl

end Cert.Same

end
-- ==== Proof.lean ====
/- The claims, put together: the program ends with its arguments unchanged and its counters at zero, in machine
   arithmetic and in exact arithmetic; so does the reference; and in exact arithmetic every device's result is the
   reference's. The run of the eight devices is proved once, for any arithmetic (Proof/Launch.lean). -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The program in machine arithmetic: it ends, with its arguments unchanged. -/
theorem frame_kernel : Cert.quiescent_Kernel := by
  intro m ρ _
  rw [Cert.Same.defs_eq, Cert.Same.main_eq]
  exact (θ_run (Cert.KernelIdeal.defs (F := Bits)) _ _).mono (fun (r : PUnit × MemSt Cert.KernelIdeal.nD Cert.KernelIdeal.τ Cert.KernelIdeal.sig (Elt Bits)) h =>
      ⟨fun c => ⟨(h.1 c (0 : Fin 3)).trans (Cert.KernelIdeal.Hand.finalA_in0 m ρ c), (h.1 c (1 : Fin 3)).trans (Cert.KernelIdeal.Hand.finalA_in1 m ρ c)⟩, h.2⟩)
    (Cert.KernelIdeal.Hand.run_main (F := Bits) m ρ)

/-- The program in exact arithmetic: it ends, with its arguments unchanged. -/
theorem frame_kernelIdeal : Cert.quiescent_KernelIdeal := by
  intro m ρ _
  exact (θ_run Cert.KernelIdeal.defs _ _).mono (fun r h =>
      ⟨fun c => ⟨(h.1 c (0 : Fin 3)).trans (Cert.KernelIdeal.Hand.finalA_in0 m ρ c), (h.1 c (1 : Fin 3)).trans (Cert.KernelIdeal.Hand.finalA_in1 m ρ c)⟩, h.2⟩)
    (Cert.KernelIdeal.Hand.run_main (F := Ideal) m ρ)

/-- The reference ends, with its arguments unchanged. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := by
  intro m ρ m' ρ' _ hm
  refine ⟨_, (θ_run Cert.KernelIdeal.defs _ _).mono (fun r h c =>
      ⟨(h.1 c (2 : Fin 3)).trans ((Cert.KernelIdeal.Hand.finalA_out m ρ c).trans (funext fun i => ?_)),
        (h.1 c (0 : Fin 3)).trans (Cert.KernelIdeal.Hand.finalA_in0 m ρ c), (h.1 c (1 : Fin 3)).trans (Cert.KernelIdeal.Hand.finalA_in1 m ρ c)⟩)
    (Cert.KernelIdeal.Hand.run_main (F := Ideal) m ρ),
    (θ_run Cert.ReferenceIdeal.defs _ _).mono (fun r h => h 0) (Cert.ReferenceIdeal.Value.run (F := Ideal) m' ρ')⟩
  refine (Cert.KernelIdeal.Hand.res_eq _ _ c i).trans (Eq.trans ?_ (Cert.KernelIdeal.Hand.ref_eq _ _ i).symm)
  exact congrArg _ (Cert.KernelIdeal.Hand.part_sum _ _ _ _
    (fun d => (Cert.KernelIdeal.Hand.facA_eq m ρ d).trans (hm d).1) (fun d => (Cert.KernelIdeal.Hand.facB_eq m ρ d).trans (hm d).2) i)

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
